-- ==== Defs.lean ====
def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojRefIdeal (m : (ℓ : Loc Cert.InprojRefIdeal.nD Cert.InprojRefIdeal.τ Cert.InprojRefIdeal.sig) → Buf (Elt Ideal) ℓ) : Prop :=
  True

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6)
      ∧ r.2.mem ((c.tc : Thread Cert.Ffn.nD Cert.Ffn.τ).loc Cert.Ffn.main_arg7) = m ((c.tc : Thread Cert.Ffn.nD Cert.Ffn.τ).loc Cert.Ffn.main_arg7))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6)
      ∧ r.2.mem ((c.tc : Thread Cert.FfnRefIdeal.nD Cert.FfnRefIdeal.τ).loc Cert.FfnRefIdeal.main_arg7) = m ((c.tc : Thread Cert.FfnRefIdeal.nD Cert.FfnRefIdeal.τ).loc Cert.FfnRefIdeal.main_arg7))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2)
      ∧ r.2.mem ((c.tc : Thread Cert.Inproj.nD Cert.Inproj.τ).loc Cert.Inproj.main_arg3) = m ((c.tc : Thread Cert.Inproj.nD Cert.Inproj.τ).loc Cert.Inproj.main_arg3)
      ∧ r.2.mem ((c.tc : Thread Cert.Inproj.nD Cert.Inproj.τ).loc Cert.Inproj.main_arg4) = m ((c.tc : Thread Cert.Inproj.nD Cert.Inproj.τ).loc Cert.Inproj.main_arg4)
      ∧ r.2.mem ((c.tc : Thread Cert.Inproj.nD Cert.Inproj.τ).loc Cert.Inproj.main_arg5) = m ((c.tc : Thread Cert.Inproj.nD Cert.Inproj.τ).loc Cert.Inproj.main_arg5)
      ∧ r.2.mem ((c.tc : Thread Cert.Inproj.nD Cert.Inproj.τ).loc Cert.Inproj.main_arg6) = m ((c.tc : Thread Cert.Inproj.nD Cert.Inproj.τ).loc Cert.Inproj.main_arg6))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
      ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4)
      ∧ r.2.mem ((c.tc : Thread Cert.InprojIdeal.nD Cert.InprojIdeal.τ).loc Cert.InprojIdeal.main_arg5) = m ((c.tc : Thread Cert.InprojIdeal.nD Cert.InprojIdeal.τ).loc Cert.InprojIdeal.main_arg5)
      ∧ r.2.mem ((c.tc : Thread Cert.InprojIdeal.nD Cert.InprojIdeal.τ).loc Cert.InprojIdeal.main_arg6) = m ((c.tc : Thread Cert.InprojIdeal.nD Cert.InprojIdeal.τ).loc Cert.InprojIdeal.main_arg6))
      ∧ r.2.sem = fun _ => 0)

def quiescent_InprojRefIdeal [hInprojRefIdeal : Cert.InprojRefIdeal.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2)
      ∧ r.2.mem ((c.tc : Thread Cert.InprojRefIdeal.nD Cert.InprojRefIdeal.τ).loc Cert.InprojRefIdeal.main_arg3) = m ((c.tc : Thread Cert.InprojRefIdeal.nD Cert.InprojRefIdeal.τ).loc Cert.InprojRefIdeal.main_arg3)
      ∧ r.2.mem ((c.tc : Thread Cert.InprojRefIdeal.nD Cert.InprojRefIdeal.τ).loc Cert.InprojRefIdeal.main_arg4) = m ((c.tc : Thread Cert.InprojRefIdeal.nD Cert.InprojRefIdeal.τ).loc Cert.InprojRefIdeal.main_arg4)
      ∧ r.2.mem ((c.tc : Thread Cert.InprojRefIdeal.nD Cert.InprojRefIdeal.τ).loc Cert.InprojRefIdeal.main_arg5) = m ((c.tc : Thread Cert.InprojRefIdeal.nD Cert.InprojRefIdeal.τ).loc Cert.InprojRefIdeal.main_arg5)
      ∧ r.2.mem ((c.tc : Thread Cert.InprojRefIdeal.nD Cert.InprojRefIdeal.τ).loc Cert.InprojRefIdeal.main_arg6) = m ((c.tc : Thread Cert.InprojRefIdeal.nD Cert.InprojRefIdeal.τ).loc Cert.InprojRefIdeal.main_arg6))
      ∧ r.2.sem = fun _ => 0)

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)
      ∧ m' ((c.tc : Thread Cert.FfnRefIdeal.nD Cert.FfnRefIdeal.τ).loc Cert.FfnRefIdeal.main_arg7) = m ((c.tc : Thread Cert.FfnIdeal.nD Cert.FfnIdeal.τ).loc Cert.FfnIdeal.main_arg7)) →
    ∃ (v0 : (c : Dev Cert.FfnIdeal.nD) → Buf (Elt Ideal) ((c.tc : Thread Cert.FfnIdeal.nD Cert.FfnIdeal.τ).loc Cert.FfnIdeal.main_v4)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v4) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
          ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v36) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6)
          ∧ r.2.mem ((c.tc : Thread Cert.FfnRefIdeal.nD Cert.FfnRefIdeal.τ).loc Cert.FfnRefIdeal.main_arg7) = m' ((c.tc : Thread Cert.FfnRefIdeal.nD Cert.FfnRefIdeal.τ).loc Cert.FfnRefIdeal.main_arg7))

def preserves_Inproj_InprojIdeal : Prop :=
  True

def algebraic_InprojIdeal_InprojRefIdeal [hInprojIdeal : Cert.InprojIdeal.Facts] [hInprojRefIdeal : Cert.InprojRefIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojRefIdeal.nD Cert.InprojRefIdeal.τ Cert.InprojRefIdeal.sig) → Buf (Elt Ideal) ℓ) (g' : Dev Cert.InprojRefIdeal.nD → PrngReg), Pre_InprojIdeal m →
    (∀ c : Dev Cert.InprojIdeal.nD,
      m' ((c.tc : Thread Cert.InprojRefIdeal.nD Cert.InprojRefIdeal.τ).loc Cert.InprojRefIdeal.main_arg0) = m ((c.tc : Thread Cert.InprojIdeal.nD Cert.InprojIdeal.τ).loc Cert.InprojIdeal.main_arg0)
      ∧ m' ((c.tc : Thread Cert.InprojRefIdeal.nD Cert.InprojRefIdeal.τ).loc Cert.InprojRefIdeal.main_arg1) = m ((c.tc : Thread Cert.InprojIdeal.nD Cert.InprojIdeal.τ).loc Cert.InprojIdeal.main_arg1)
      ∧ m' ((c.tc : Thread Cert.InprojRefIdeal.nD Cert.InprojRefIdeal.τ).loc Cert.InprojRefIdeal.main_arg2) = m ((c.tc : Thread Cert.InprojIdeal.nD Cert.InprojIdeal.τ).loc Cert.InprojIdeal.main_arg2)
      ∧ m' ((c.tc : Thread Cert.InprojRefIdeal.nD Cert.InprojRefIdeal.τ).loc Cert.InprojRefIdeal.main_arg3) = m ((c.tc : Thread Cert.InprojIdeal.nD Cert.InprojIdeal.τ).loc Cert.InprojIdeal.main_arg3)
      ∧ m' ((c.tc : Thread Cert.InprojRefIdeal.nD Cert.InprojRefIdeal.τ).loc Cert.InprojRefIdeal.main_arg4) = m ((c.tc : Thread Cert.InprojIdeal.nD Cert.InprojIdeal.τ).loc Cert.InprojIdeal.main_arg4)
      ∧ m' ((c.tc : Thread Cert.InprojRefIdeal.nD Cert.InprojRefIdeal.τ).loc Cert.InprojRefIdeal.main_arg5) = m ((c.tc : Thread Cert.InprojIdeal.nD Cert.InprojIdeal.τ).loc Cert.InprojIdeal.main_arg5)
      ∧ m' ((c.tc : Thread Cert.InprojRefIdeal.nD Cert.InprojRefIdeal.τ).loc Cert.InprojRefIdeal.main_arg6) = m ((c.tc : Thread Cert.InprojIdeal.nD Cert.InprojIdeal.τ).loc Cert.InprojIdeal.main_arg6)) →
    ∃ (v0 : (c : Dev Cert.InprojIdeal.nD) → Buf (Elt Ideal) ((c.tc : Thread Cert.InprojIdeal.nD Cert.InprojIdeal.τ).loc Cert.InprojIdeal.main_v50_1)) (v1 : (c : Dev Cert.InprojIdeal.nD) → Buf (Elt Ideal) ((c.tc : Thread Cert.InprojIdeal.nD Cert.InprojIdeal.τ).loc Cert.InprojIdeal.main_v50_2)) (v2 : (c : Dev Cert.InprojIdeal.nD) → Buf (Elt Ideal) ((c.tc : Thread Cert.InprojIdeal.nD Cert.InprojIdeal.τ).loc Cert.InprojIdeal.main_v50_3)) (v3 : (c : Dev Cert.InprojIdeal.nD) → Buf (Elt Ideal) ((c.tc : Thread Cert.InprojIdeal.nD Cert.InprojIdeal.τ).loc Cert.InprojIdeal.main_v50_5)) (v4 : (c : Dev Cert.InprojIdeal.nD) → Buf (Elt Ideal) ((c.tc : Thread Cert.InprojIdeal.nD Cert.InprojIdeal.τ).loc Cert.InprojIdeal.main_v50_8)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v50_1) = v0 c
          ∧ r.2.mem ((c.tc : Thread Cert.InprojIdeal.nD Cert.InprojIdeal.τ).loc Cert.InprojIdeal.main_v50_2) = v1 c
          ∧ r.2.mem ((c.tc : Thread Cert.InprojIdeal.nD Cert.InprojIdeal.τ).loc Cert.InprojIdeal.main_v50_3) = v2 c
          ∧ r.2.mem ((c.tc : Thread Cert.InprojIdeal.nD Cert.InprojIdeal.τ).loc Cert.InprojIdeal.main_v50_5) = v3 c
          ∧ r.2.mem ((c.tc : Thread Cert.InprojIdeal.nD Cert.InprojIdeal.τ).loc Cert.InprojIdeal.main_v50_8) = v4 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
          ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
          ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4)
          ∧ r.2.mem ((c.tc : Thread Cert.InprojIdeal.nD Cert.InprojIdeal.τ).loc Cert.InprojIdeal.main_arg5) = m ((c.tc : Thread Cert.InprojIdeal.nD Cert.InprojIdeal.τ).loc Cert.InprojIdeal.main_arg5)
          ∧ r.2.mem ((c.tc : Thread Cert.InprojIdeal.nD Cert.InprojIdeal.τ).loc Cert.InprojIdeal.main_arg6) = m ((c.tc : Thread Cert.InprojIdeal.nD Cert.InprojIdeal.τ).loc Cert.InprojIdeal.main_arg6))
      ∧ θ_run (Cert.InprojRefIdeal.defs (F := Ideal)) (onTc (τ := Cert.InprojRefIdeal.τ) (Cert.InprojRefIdeal.main (F := Ideal))) ⟨m', fun _ => 0, g'⟩ (fun r => ∀ c : Dev Cert.InprojRefIdeal.nD,
          r.2.mem ((c.tc : Thread Cert.InprojRefIdeal.nD Cert.InprojRefIdeal.τ).loc Cert.InprojRefIdeal.main_v23) = v0 c
          ∧ r.2.mem ((c.tc : Thread Cert.InprojRefIdeal.nD Cert.InprojRefIdeal.τ).loc Cert.InprojRefIdeal.main_v24) = v1 c
          ∧ r.2.mem ((c.tc : Thread Cert.InprojRefIdeal.nD Cert.InprojRefIdeal.τ).loc Cert.InprojRefIdeal.main_v85) = v2 c
          ∧ r.2.mem ((c.tc : Thread Cert.InprojRefIdeal.nD Cert.InprojRefIdeal.τ).loc Cert.InprojRefIdeal.main_v86) = v3 c
          ∧ r.2.mem ((c.tc : Thread Cert.InprojRefIdeal.nD Cert.InprojRefIdeal.τ).loc Cert.InprojRefIdeal.main_v87) = v4 c
          ∧ r.2.mem ((c.tc : Thread Cert.InprojRefIdeal.nD Cert.InprojRefIdeal.τ).loc Cert.InprojRefIdeal.main_arg0) = m' ((c.tc : Thread Cert.InprojRefIdeal.nD Cert.InprojRefIdeal.τ).loc Cert.InprojRefIdeal.main_arg0)
          ∧ r.2.mem ((c.tc : Thread Cert.InprojRefIdeal.nD Cert.InprojRefIdeal.τ).loc Cert.InprojRefIdeal.main_arg1) = m' ((c.tc : Thread Cert.InprojRefIdeal.nD Cert.InprojRefIdeal.τ).loc Cert.InprojRefIdeal.main_arg1)
          ∧ r.2.mem ((c.tc : Thread Cert.InprojRefIdeal.nD Cert.InprojRefIdeal.τ).loc Cert.InprojRefIdeal.main_arg2) = m' ((c.tc : Thread Cert.InprojRefIdeal.nD Cert.InprojRefIdeal.τ).loc Cert.InprojRefIdeal.main_arg2)
          ∧ r.2.mem ((c.tc : Thread Cert.InprojRefIdeal.nD Cert.InprojRefIdeal.τ).loc Cert.InprojRefIdeal.main_arg3) = m' ((c.tc : Thread Cert.InprojRefIdeal.nD Cert.InprojRefIdeal.τ).loc Cert.InprojRefIdeal.main_arg3)
          ∧ r.2.mem ((c.tc : Thread Cert.InprojRefIdeal.nD Cert.InprojRefIdeal.τ).loc Cert.InprojRefIdeal.main_arg4) = m' ((c.tc : Thread Cert.InprojRefIdeal.nD Cert.InprojRefIdeal.τ).loc Cert.InprojRefIdeal.main_arg4)
          ∧ r.2.mem ((c.tc : Thread Cert.InprojRefIdeal.nD Cert.InprojRefIdeal.τ).loc Cert.InprojRefIdeal.main_arg5) = m' ((c.tc : Thread Cert.InprojRefIdeal.nD Cert.InprojRefIdeal.τ).loc Cert.InprojRefIdeal.main_arg5)
          ∧ r.2.mem ((c.tc : Thread Cert.InprojRefIdeal.nD Cert.InprojRefIdeal.τ).loc Cert.InprojRefIdeal.main_arg6) = m' ((c.tc : Thread Cert.InprojRefIdeal.nD Cert.InprojRefIdeal.τ).loc Cert.InprojRefIdeal.main_arg6))

def Claim : Prop :=
  ∃ (hFfn : Cert.Ffn.Facts) (hFfnIdeal : Cert.FfnIdeal.Facts) (hFfnRefIdeal : Cert.FfnRefIdeal.Facts) (hInproj : Cert.Inproj.Facts) (hInprojIdeal : Cert.InprojIdeal.Facts) (hInprojRefIdeal : Cert.InprojRefIdeal.Facts),
    quiescent_Ffn (hFfn := hFfn)
    ∧ quiescent_FfnIdeal (hFfnIdeal := hFfnIdeal)
    ∧ quiescent_FfnRefIdeal (hFfnRefIdeal := hFfnRefIdeal)
    ∧ quiescent_Inproj (hInproj := hInproj)
    ∧ quiescent_InprojIdeal (hInprojIdeal := hInprojIdeal)
    ∧ quiescent_InprojRefIdeal (hInprojRefIdeal := hInprojRefIdeal)
    ∧ preserves_Ffn_FfnIdeal
    ∧ algebraic_FfnIdeal_FfnRefIdeal (hFfnIdeal := hFfnIdeal) (hFfnRefIdeal := hFfnRefIdeal)
    ∧ preserves_Inproj_InprojIdeal
    ∧ algebraic_InprojIdeal_InprojRefIdeal (hInprojIdeal := hInprojIdeal) (hInprojRefIdeal := hInprojRefIdeal)
-- ==== Ffn.lean ====
abbrev S4x8192x1024 : Shape := ⟨3, ![4, 8192, 1024]⟩
abbrev S4x8192x512 : Shape := ⟨3, ![4, 8192, 512]⟩
abbrev S4x6x1024 : Shape := ⟨3, ![4, 6, 1024]⟩
abbrev S1024 : Shape := ⟨1, ![1024]⟩
abbrev S1024x1024 : Shape := ⟨2, ![1024, 1024]⟩
abbrev S1024x4096 : Shape := ⟨2, ![1024, 4096]⟩
abbrev S4096x1024 : Shape := ⟨2, ![4096, 1024]⟩
abbrev S1x1024 : Shape := ⟨2, ![1, 1024]⟩
abbrev S1x512x1024 : Shape := ⟨3, ![1, 512, 1024]⟩
abbrev S1x512x512 : Shape := ⟨3, ![1, 512, 512]⟩
abbrev S1x6x1024 : Shape := ⟨3, ![1, 6, 1024]⟩
abbrev S512x512 : Shape := ⟨2, ![512, 512]⟩
abbrev S512x1024 : Shape := ⟨2, ![512, 1024]⟩
abbrev S1x1x1024 : Shape := ⟨3, ![1, 1, 1024]⟩
abbrev S512 : Shape := ⟨1, ![512]⟩
abbrev S512x1 : Shape := ⟨2, ![512, 1]⟩

abbrev nBuf : Space → Nat
  | .hbm => 13
  | .vmem => 14
  | .smem => 0
  | _ => 0

abbrev bufTy : (tb : Table) → Fin (tcTables nBuf tb) → BufTy
  | .hbm, ⟨0, _⟩ => ⟨S4x8192x1024, .f32⟩
  | .hbm, ⟨1, _⟩ => ⟨S4x8192x512, .bf16⟩
  | .hbm, ⟨2, _⟩ => ⟨S4x8192x512, .bf16⟩
  | .hbm, ⟨3, _⟩ => ⟨S4x6x1024, .f32⟩
  | .hbm, ⟨4, _⟩ => ⟨S1024, .f32⟩
  | .hbm, ⟨5, _⟩ => ⟨S1024x1024, .f32⟩
  | .hbm, ⟨6, _⟩ => ⟨S1024x4096, .f32⟩
  | .hbm, ⟨7, _⟩ => ⟨S4096x1024, .f32⟩
  | .hbm, ⟨8, _⟩ => ⟨S1x1024, .f32⟩
  | .hbm, ⟨9, _⟩ => ⟨S1024x1024, .bf16⟩
  | .hbm, ⟨10, _⟩ => ⟨S1024x4096, .bf16⟩
  | .hbm, ⟨11, _⟩ => ⟨S4096x1024, .bf16⟩
  | .hbm, ⟨12, _⟩ => ⟨S4x8192x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x512, .bf16⟩
  | .local _ .vmem, ⟨3, _⟩ => ⟨S1x512x512, .bf16⟩
  | .local _ .vmem, ⟨4, _⟩ => ⟨S1x512x512, .bf16⟩
  | .local _ .vmem, ⟨5, _⟩ => ⟨S1x512x512, .bf16⟩
  | .local _ .vmem, ⟨6, _⟩ => ⟨S1x6x1024, .f32⟩
  | .local _ .vmem, ⟨7, _⟩ => ⟨S1x6x1024, .f32⟩
  | .local _ .vmem, ⟨8, _⟩ => ⟨S1x1024, .f32⟩
  | .local _ .vmem, ⟨9, _⟩ => ⟨S1024x1024, .bf16⟩
  | .local _ .vmem, ⟨10, _⟩ => ⟨S1024x4096, .bf16⟩
  | .local _ .vmem, ⟨11, _⟩ => ⟨S4096x1024, .bf16⟩
  | .local _ .vmem, ⟨12, _⟩ => ⟨S1x512x1024, .f32⟩
  | .local _ .vmem, ⟨13, _⟩ => ⟨S1x512x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x6x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x4096 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S4096x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== FfnRefIdeal.lean ====
abbrev S4x8192x1024 : Shape := ⟨3, ![4, 8192, 1024]⟩
abbrev S4x8192x512 : Shape := ⟨3, ![4, 8192, 512]⟩
abbrev S4x6x1024 : Shape := ⟨3, ![4, 6, 1024]⟩
abbrev S1024 : Shape := ⟨1, ![1024]⟩
abbrev S1024x1024 : Shape := ⟨2, ![1024, 1024]⟩
abbrev S1024x4096 : Shape := ⟨2, ![1024, 4096]⟩
abbrev S4096x1024 : Shape := ⟨2, ![4096, 1024]⟩
abbrev S4x1x1024 : Shape := ⟨3, ![4, 1, 1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x8192x4096 : Shape := ⟨3, ![4, 8192, 4096]⟩

abbrev nBuf : Space → Nat
  | .hbm => 51
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x8192x512, .bf16⟩
  | .hbm, ⟨2, _⟩ => ⟨S4x8192x512, .bf16⟩
  | .hbm, ⟨3, _⟩ => ⟨S4x6x1024, .f32⟩
  | .hbm, ⟨4, _⟩ => ⟨S1024, .f32⟩
  | .hbm, ⟨5, _⟩ => ⟨S1024x1024, .f32⟩
  | .hbm, ⟨6, _⟩ => ⟨S1024x4096, .f32⟩
  | .hbm, ⟨7, _⟩ => ⟨S4096x1024, .f32⟩
  | .hbm, ⟨8, _⟩ => ⟨S4x1x1024, .f32⟩
  | .hbm, ⟨9, _⟩ => ⟨S4x1x1024, .f32⟩
  | .hbm, ⟨10, _⟩ => ⟨S4x1x1024, .f32⟩
  | .hbm, ⟨11, _⟩ => ⟨S4x1x1024, .f32⟩
  | .hbm, ⟨12, _⟩ => ⟨S4x8192x512, .f32⟩
  | .hbm, ⟨13, _⟩ => ⟨S4x8192x512, .f32⟩
  | .hbm, ⟨14, _⟩ => ⟨S4x8192x1024, .f32⟩
  | .hbm, ⟨15, _⟩ => ⟨S4x8192x1024, .f32⟩
  | .hbm, ⟨16, _⟩ => ⟨S4x8192x1024, .f32⟩
  | .hbm, ⟨17, _⟩ => ⟨S4x8192x1024, .f32⟩
  | .hbm, ⟨18, _⟩ => ⟨S4x8192x1024, .f32⟩
  | .hbm, ⟨19, _⟩ => ⟨S4x8192x1024, .f32⟩
  | .hbm, ⟨20, _⟩ => ⟨S_, .f32⟩
  | .hbm, ⟨21, _⟩ => ⟨S4x8192, .f32⟩
  | .hbm, ⟨22, _⟩ => ⟨S4x8192x1, .f32⟩
  | .hbm, ⟨23, _⟩ => ⟨S_, .f32⟩
  | .hbm, ⟨24, _⟩ => ⟨S4x8192x1, .f32⟩
  | .hbm, ⟨25, _⟩ => ⟨S4x8192x1, .f32⟩
  | .hbm, ⟨26, _⟩ => ⟨S_, .f32⟩
  | .hbm, ⟨27, _⟩ => ⟨S4x8192x1, .f32⟩
  | .hbm, ⟨28, _⟩ => ⟨S4x8192x1, .f32⟩
  | .hbm, ⟨29, _⟩ => ⟨S4x8192x1, .f32⟩
  | .hbm, ⟨30, _⟩ => ⟨S4x8192x1024, .f32⟩
  | .hbm, ⟨31, _⟩ => ⟨S4x8192x1024, .f32⟩
  | .hbm, ⟨32, _⟩ => ⟨S1x1x1024, .f32⟩
  | .hbm, ⟨33, _⟩ => ⟨S4x8192x1024, .f32⟩
  | .hbm, ⟨34, _⟩ => ⟨S4x8192x1024, .f32⟩
  | .hbm, ⟨35, _⟩ => ⟨S_, .f32⟩
  | .hbm, ⟨36, _⟩ => ⟨S4x1x1024, .f32⟩
  | .hbm, ⟨37, _⟩ => ⟨S4x1x1024, .f32⟩
  | .hbm, ⟨38, _⟩ => ⟨S4x8192x1024, .f32⟩
  | .hbm, ⟨39, _⟩ => ⟨S4x8192x1024, .f32⟩
  | .hbm, ⟨40, _⟩ => ⟨S4x8192x1024, .f32⟩
  | .hbm, ⟨41, _⟩ => ⟨S4x8192x1024, .f32⟩
  | .hbm, ⟨42, _⟩ => ⟨S4x8192x4096, .f32⟩
  | .hbm, ⟨43, _⟩ => ⟨S_, .f32⟩
  | .hbm, ⟨44, _⟩ => ⟨S4x8192x4096, .f32⟩
  | .hbm, ⟨45, _⟩ => ⟨S4x8192x4096, .f32⟩
  | .hbm, ⟨46, _⟩ => ⟨S4x8192x4096, .f32⟩
  | .hbm, ⟨47, _⟩ => ⟨S4x8192x1024, .f32⟩
  | .hbm, ⟨48, _⟩ => ⟨S4x8192x1024, .f32⟩
  | .hbm, ⟨49, _⟩ => ⟨S4x8192x1024, .f32⟩
  | .hbm, ⟨50, _⟩ => ⟨S4x8192x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_v13 : Ref sig .tc := ⟨.hbm, 22, rfl⟩
abbrev main_cst_0 : Ref sig .tc := ⟨.hbm, 23, rfl⟩
abbrev main_v14 : Ref sig .tc := ⟨.hbm, 24, rfl⟩
abbrev main_v15 : Ref sig .tc := ⟨.hbm, 25, rfl⟩
abbrev main_cst_1 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_2 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_call0_cst : Ref sig .tc := ⟨.hbm, 43, rfl⟩
abbrev main_call0_v0 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩

abbrev nD : Nat := 1
abbrev τ : Topo := Topo.v7x

variable {F : FTy → Type} [FloatOps F]
-- ==== Inproj.lean ====
abbrev S4x8192x1024 : Shape := ⟨3, ![4, 8192, 1024]⟩
abbrev S4x6x1024 : Shape := ⟨3, ![4, 6, 1024]⟩
abbrev S1024 : Shape := ⟨1, ![1024]⟩
abbrev S1024x2840 : Shape := ⟨2, ![1024, 2840]⟩
abbrev S64 : Shape := ⟨1, ![64]⟩
abbrev S3x512 : Shape := ⟨2, ![3, 512]⟩
abbrev S1x64 : Shape := ⟨2, ![1, 64]⟩
abbrev S8x64 : Shape := ⟨2, ![8, 64]⟩
abbrev S512 : Shape := ⟨1, ![512]⟩
abbrev S_ : Shape := ⟨0, ![]⟩
abbrev S512x1 : Shape := ⟨2, ![512, 1]⟩
abbrev S2x64 : Shape := ⟨2, ![2, 64]⟩
abbrev S128 : Shape := ⟨1, ![128]⟩
abbrev S1x128 : Shape := ⟨2, ![1, 128]⟩
abbrev S8x8 : Shape := ⟨2, ![8, 8]⟩
abbrev S8x1x8x1 : Shape := ⟨4, ![8, 1, 8, 1]⟩
abbrev S8x64x8x64 : Shape := ⟨4, ![8, 64, 8, 64]⟩
abbrev S512x512 : Shape := ⟨2, ![512, 512]⟩
abbrev S2x2 : Shape := ⟨2, ![2, 2]⟩
abbrev S2x1x2x1 : Shape := ⟨4, ![2, 1, 2, 1]⟩
abbrev S2x64x2x64 : Shape := ⟨4, ![2, 64, 2, 64]⟩
abbrev S128x128 : Shape := ⟨2, ![128, 128]⟩
abbrev S1024x512 : Shape := ⟨2, ![1024, 512]⟩
abbrev S1024x128 : Shape := ⟨2, ![1024, 128]⟩
abbrev S1024x24 : Shape := ⟨2, ![1024, 24]⟩
abbrev S1024x2048 : Shape := ⟨2, ![1024, 2048]⟩
abbrev S1024x2x4x3 : Shape := ⟨4, ![1024, 2, 4, 3]⟩
abbrev S4x3x2x1024 : Shape := ⟨4, ![4, 3, 2, 1024]⟩
abbrev S4x8x1024 : Shape := ⟨3, ![4, 8, 1024]⟩
abbrev S32x1024 : Shape := ⟨2, ![32, 1024]⟩
abbrev S512x1024 : Shape := ⟨2, ![512, 1024]⟩
abbrev S128x1024 : Shape := ⟨2, ![128, 1024]⟩
abbrev S800x1024 : Shape := ⟨2, ![800, 1024]⟩
abbrev S1x1024 : Shape := ⟨2, ![1, 1024]⟩
abbrev S4x128x2x64x256 : Shape := ⟨5, ![4, 128, 2, 64, 256]⟩
abbrev S4x8192x128 : Shape := ⟨3, ![4, 8192, 128]⟩
abbrev S4x32x160x256 : Shape := ⟨4, ![4, 32, 160, 256]⟩
abbrev S4x64x160x128 : Shape := ⟨4, ![4, 64, 160, 128]⟩
abbrev S4x128x8x256 : Shape := ⟨4, ![4, 128, 8, 256]⟩
abbrev S4x8192x512 : Shape := ⟨3, ![4, 8192, 512]⟩
abbrev S1x1024x1024 : Shape := ⟨3, ![1, 1024, 1024]⟩
abbrev S1x6x1024 : Shape := ⟨3, ![1, 6, 1024]⟩
abbrev S1x16x2x64x256 : Shape := ⟨5, ![1, 16, 2, 64, 256]⟩
abbrev S1x1024x128 : Shape := ⟨3, ![1, 1024, 128]⟩
abbrev S1x4x160x256 : Shape := ⟨4, ![1, 4, 160, 256]⟩
abbrev S1x8x160x128 : Shape := ⟨4, ![1, 8, 160, 128]⟩
abbrev S1x16x8x256 : Shape := ⟨4, ![1, 16, 8, 256]⟩
abbrev S1x1024x512 : Shape := ⟨3, ![1, 1024, 512]⟩
abbrev S8x512 : Shape := ⟨2, ![8, 512]⟩
abbrev S1x512 : Shape := ⟨2, ![1, 512]⟩
abbrev S1x256x1024 : Shape := ⟨3, ![1, 256, 1024]⟩
abbrev S256x1024 : Shape := ⟨2, ![256, 1024]⟩
abbrev S256 : Shape := ⟨1, ![256]⟩
abbrev S256x1 : Shape := ⟨2, ![256, 1]⟩
abbrev S1x1x1024 : Shape := ⟨3, ![1, 1, 1024]⟩
abbrev S512x256 : Shape := ⟨2, ![512, 256]⟩
abbrev S288x1024 : Shape := ⟨2, ![288, 1024]⟩
abbrev S288x256 : Shape := ⟨2, ![288, 256]⟩
abbrev S256x512 : Shape := ⟨2, ![256, 512]⟩
abbrev S1024x1536 : Shape := ⟨2, ![1024, 1536]⟩
abbrev S256x1536 : Shape := ⟨2, ![256, 1536]⟩
abbrev S32x256 : Shape := ⟨2, ![32, 256]⟩
abbrev S64x128 : Shape := ⟨2, ![64, 128]⟩
abbrev S64x256 : Shape := ⟨2, ![64, 256]⟩
abbrev S1x1x1x64x256 : Shape := ⟨5, ![1, 1, 1, 64, 256]⟩
abbrev S8x128 : Shape := ⟨2, ![8, 128]⟩
abbrev S8x256 : Shape := ⟨2, ![8, 256]⟩
abbrev S1x1x8x256 : Shape := ⟨4, ![1, 1, 8, 256]⟩
abbrev S128x256 : Shape := ⟨2, ![128, 256]⟩
abbrev S16x256 : Shape := ⟨2, ![16, 256]⟩
abbrev S160x256 : Shape := ⟨2, ![160, 256]⟩
abbrev S1x1x160x256 : Shape := ⟨4, ![1, 1, 160, 256]⟩
abbrev S160x128 : Shape := ⟨2, ![160, 128]⟩
abbrev S1x1x160x128 : Shape := ⟨4, ![1, 1, 160, 128]⟩
abbrev S256x128 : Shape := ⟨2, ![256, 128]⟩
abbrev S1x256x128 : Shape := ⟨3, ![1, 256, 128]⟩
abbrev S1x256x512 : Shape := ⟨3, ![1, 256, 512]⟩

abbrev nBuf : Space → Nat
  | .hbm => 77
  | .vmem => 31
  | .smem => 0
  | _ => 0

abbrev bufTy : (tb : Table) → Fin (tcTables nBuf tb) → BufTy
  | .hbm, ⟨0, _⟩ => ⟨S4x8192x1024, .f32⟩
  | .hbm, ⟨1, _⟩ => ⟨S4x6x1024, .f32⟩
  | .hbm, ⟨2, _⟩ => ⟨S1024, .f32⟩
  | .hbm, ⟨3, _⟩ => ⟨S1024x2840, .f32⟩
  | .hbm, ⟨4, _⟩ => ⟨S64, .f32⟩
  | .hbm, ⟨5, _⟩ => ⟨S64, .f32⟩
  | .hbm, ⟨6, _⟩ => ⟨S3x512, .f32⟩
  | .hbm, ⟨7, _⟩ => ⟨S1x64, .f32⟩
  | .hbm, ⟨8, _⟩ => ⟨S8x64, .f32⟩
  | .hbm, ⟨9, _⟩ => ⟨S512, .f32⟩
  | .hbm, ⟨10, _⟩ => ⟨S_, .f32⟩
  | .hbm, ⟨11, _⟩ => ⟨S512, .f32⟩
  | .hbm, ⟨12, _⟩ => ⟨S512, .f32⟩
  | .hbm, ⟨13, _⟩ => ⟨S512x1, .f32⟩
  | .hbm, ⟨14, _⟩ => ⟨S1x64, .f32⟩
  | .hbm, ⟨15, _⟩ => ⟨S2x64, .f32⟩
  | .hbm, ⟨16, _⟩ => ⟨S128, .f32⟩
  | .hbm, ⟨17, _⟩ => ⟨S1x128, .f32⟩
  | .hbm, ⟨18, _⟩ => ⟨S8x8, .i32⟩
  | .hbm, ⟨19, _⟩ => ⟨S8x8, .i32⟩
  | .hbm, ⟨20, _⟩ => ⟨S8x8, .i1⟩
  | .hbm, ⟨21, _⟩ => ⟨S_, .f32⟩
  | .hbm, ⟨22, _⟩ => ⟨S_, .f32⟩
  | .hbm, ⟨23, _⟩ => ⟨S8x8, .f32⟩
  | .hbm, ⟨24, _⟩ => ⟨S8x8, .f32⟩
  | .hbm, ⟨25, _⟩ => ⟨S8x8, .f32⟩
  | .hbm, ⟨26, _⟩ => ⟨S8x1x8x1, .f32⟩
  | .hbm, ⟨27, _⟩ => ⟨S8x64x8x64, .f32⟩
  | .hbm, ⟨28, _⟩ => ⟨S512x512, .f32⟩
  | .hbm, ⟨29, _⟩ => ⟨S512x512, .bf16⟩
  | .hbm, ⟨30, _⟩ => ⟨S2x2, .i32⟩
  | .hbm, ⟨31, _⟩ => ⟨S2x2, .i32⟩
  | .hbm, ⟨32, _⟩ => ⟨S2x2, .i1⟩
  | .hbm, ⟨33, _⟩ => ⟨S_, .f32⟩
  | .hbm, ⟨34, _⟩ => ⟨S_, .f32⟩
  | .hbm, ⟨35, _⟩ => ⟨S2x2, .f32⟩
  | .hbm, ⟨36, _⟩ => ⟨S2x2, .f32⟩
  | .hbm, ⟨37, _⟩ => ⟨S2x2, .f32⟩
  | .hbm, ⟨38, _⟩ => ⟨S2x1x2x1, .f32⟩
  | .hbm, ⟨39, _⟩ => ⟨S2x64x2x64, .f32⟩
  | .hbm, ⟨40, _⟩ => ⟨S128x128, .f32⟩
  | .hbm, ⟨41, _⟩ => ⟨S128x128, .bf16⟩
  | .hbm, ⟨42, _⟩ => ⟨S1024x512, .f32⟩
  | .hbm, ⟨43, _⟩ => ⟨S1024x128, .f32⟩
  | .hbm, ⟨44, _⟩ => ⟨S1024x128, .f32⟩
  | .hbm, ⟨45, _⟩ => ⟨S1024x128, .f32⟩
  | .hbm, ⟨46, _⟩ => ⟨S1024x128, .f32⟩
  | .hbm, ⟨47, _⟩ => ⟨S1024x128, .f32⟩
  | .hbm, ⟨48, _⟩ => ⟨S1024x128, .f32⟩
  | .hbm, ⟨49, _⟩ => ⟨S1024x24, .f32⟩
  | .hbm, ⟨50, _⟩ => ⟨S1024x512, .f32⟩
  | .hbm, ⟨51, _⟩ => ⟨S1024x512, .f32⟩
  | .hbm, ⟨52, _⟩ => ⟨S1024x512, .f32⟩
  | .hbm, ⟨53, _⟩ => ⟨S1024x2048, .f32⟩
  | .hbm, ⟨54, _⟩ => ⟨S1024x2048, .bf16⟩
  | .hbm, ⟨55, _⟩ => ⟨S1024x2x4x3, .f32⟩
  | .hbm, ⟨56, _⟩ => ⟨S4x3x2x1024, .f32⟩
  | .hbm, ⟨57, _⟩ => ⟨S4x6x1024, .f32⟩
  | .hbm, ⟨58, _⟩ => ⟨S_, .i32⟩
  | .hbm, ⟨59, _⟩ => ⟨S_, .f32⟩
  | .hbm, ⟨60, _⟩ => ⟨S4x8x1024, .f32⟩
  | .hbm, ⟨61, _⟩ => ⟨S32x1024, .f32⟩
  | .hbm, ⟨62, _⟩ => ⟨S512x1024, .f32⟩
  | .hbm, ⟨63, _⟩ => ⟨S128x1024, .f32⟩
  | .hbm, ⟨64, _⟩ => ⟨S128x1024, .f32⟩
  | .hbm, ⟨65, _⟩ => ⟨S800x1024, .f32⟩
  | .hbm, ⟨66, _⟩ => ⟨S800x1024, .bf16⟩
  | .hbm, ⟨67, _⟩ => ⟨S1x1024, .f32⟩
  | .hbm, ⟨68, _⟩ => ⟨S4x128x2x64x256, .bf16⟩
  | .hbm, ⟨69, _⟩ => ⟨S4x8192x128, .f32⟩
  | .hbm, ⟨70, _⟩ => ⟨S4x8192x128, .f32⟩
  | .hbm, ⟨71, _⟩ => ⟨S4x8192x128, .bf16⟩
  | .hbm, ⟨72, _⟩ => ⟨S4x32x160x256, .bf16⟩
  | .hbm, ⟨73, _⟩ => ⟨S4x8192x128, .bf16⟩
  | .hbm, ⟨74, _⟩ => ⟨S4x64x160x128, .bf16⟩
  | .hbm, ⟨75, _⟩ => ⟨S4x128x8x256, .f32⟩
  | .hbm, ⟨76, _⟩ => ⟨S4x8192x512, .bf16⟩
  | .local _ .vmem, ⟨0, _⟩ => ⟨S1x1024x1024, .f32⟩
  | .local _ .vmem, ⟨1, _⟩ => ⟨S1x1024x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1024, .f32⟩
  | .local _ .vmem, ⟨5, _⟩ => ⟨S1024x2048, .bf16⟩
  | .local _ .vmem, ⟨6, _⟩ => ⟨S800x1024, .bf16⟩
  | .local _ .vmem, ⟨7, _⟩ => ⟨S512x1, .f32⟩
  | .local _ .vmem, ⟨8, _⟩ => ⟨S1x128, .f32⟩
  | .local _ .vmem, ⟨9, _⟩ => ⟨S3x512, .f32⟩
  | .local _ .vmem, ⟨10, _⟩ => ⟨S512x512, .bf16⟩
  | .local _ .vmem, ⟨11, _⟩ => ⟨S128x128, .bf16⟩
  | .local _ .vmem, ⟨12, _⟩ => ⟨S1x16x2x64x256, .bf16⟩
  | .local _ .vmem, ⟨13, _⟩ => ⟨S1x16x2x64x256, .bf16⟩
  | .local _ .vmem, ⟨14, _⟩ => ⟨S1x1024x128, .f32⟩
  | .local _ .vmem, ⟨15, _⟩ => ⟨S1x1024x128, .f32⟩
  | .local _ .vmem, ⟨16, _⟩ => ⟨S1x1024x128, .f32⟩
  | .local _ .vmem, ⟨17, _⟩ => ⟨S1x1024x128, .f32⟩
  | .local _ .vmem, ⟨18, _⟩ => ⟨S1x1024x128, .bf16⟩
  | .local _ .vmem, ⟨19, _⟩ => ⟨S1x1024x128, .bf16⟩
  | .local _ .vmem, ⟨20, _⟩ => ⟨S1x4x160x256, .bf16⟩
  | .local _ .vmem, ⟨21, _⟩ => ⟨S1x4x160x256, .bf16⟩
  | .local _ .vmem, ⟨22, _⟩ => ⟨S1x1024x128, .bf16⟩
  | .local _ .vmem, ⟨23, _⟩ => ⟨S1x1024x128, .bf16⟩
  | .local _ .vmem, ⟨24, _⟩ => ⟨S1x8x160x128, .bf16⟩
  | .local _ .vmem, ⟨25, _⟩ => ⟨S1x8x160x128, .bf16⟩
  | .local _ .vmem, ⟨26, _⟩ => ⟨S1x16x8x256, .f32⟩
  | .local _ .vmem, ⟨27, _⟩ => ⟨S1x16x8x256, .f32⟩
  | .local _ .vmem, ⟨28, _⟩ => ⟨S1x1024x512, .bf16⟩
  | .local _ .vmem, ⟨29, _⟩ => ⟨S1x1024x512, .bf16⟩
  | .local _ .vmem, ⟨30, _⟩ => ⟨S8x512, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_0 : Ref sig .tc := ⟨.hbm, 21, rfl⟩
abbrev main_cst_1 : Ref sig .tc := ⟨.hbm, 22, rfl⟩
abbrev main_call0_v0 : Ref sig .tc := ⟨.hbm, 23, rfl⟩
abbrev main_call0_v1 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_2 : Ref sig .tc := ⟨.hbm, 33, rfl⟩
abbrev main_cst_3 : Ref sig .tc := ⟨.hbm, 34, rfl⟩
abbrev main_call1_v0 : Ref sig .tc := ⟨.hbm, 35, rfl⟩
abbrev main_call1_v1 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_c : Ref sig .tc := ⟨.hbm, 58, rfl⟩
abbrev main_call2_v0 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50_0 : Ref sig .tc := ⟨.hbm, 68, rfl⟩
abbrev main_v50_1 : Ref sig .tc := ⟨.hbm, 69, rfl⟩
abbrev main_v50_2 : Ref sig .tc := ⟨.hbm, 70, rfl⟩
abbrev main_v50_3 : Ref sig .tc := ⟨.hbm, 71, rfl⟩
abbrev main_v50_4 : Ref sig .tc := ⟨.hbm, 72, rfl⟩
abbrev main_v50_5 : Ref sig .tc := ⟨.hbm, 73, rfl⟩
abbrev main_v50_6 : Ref sig .tc := ⟨.hbm, 74, rfl⟩
abbrev main_v50_7 : Ref sig .tc := ⟨.hbm, 75, rfl⟩
abbrev main_v50_8 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_stg18_0 : Ref sig .tc := ⟨.vmem, 28, rfl⟩
abbrev cc0_stg18_1 : Ref sig .tc := ⟨.vmem, 29, rfl⟩
abbrev cc0_scratch0 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25
abbrev cc0_sem17_0 : DmaSem sig := 26
abbrev cc0_sem17_1 : DmaSem sig := 27
abbrev cc0_sem18_0 : DmaSem sig := 28
abbrev cc0_sem18_1 : DmaSem sig := 29

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_17 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S800x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S3x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S512x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S128x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x16x2x64x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1024x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x1024x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x1024x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x4x160x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x1024x128 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x8x160x128 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x16x8x256 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x1024x512 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]
-- ==== InprojRefIdeal.lean ====
abbrev S4x8192x1024 : Shape := ⟨3, ![4, 8192, 1024]⟩
abbrev S4x6x1024 : Shape := ⟨3, ![4, 6, 1024]⟩
abbrev S1024 : Shape := ⟨1, ![1024]⟩
abbrev S1024x2840 : Shape := ⟨2, ![1024, 2840]⟩
abbrev S64 : Shape := ⟨1, ![64]⟩
abbrev S3x512 : Shape := ⟨2, ![3, 512]⟩
abbrev S4x1x1024 : Shape := ⟨3, ![4, 1, 1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x8192x2840 : Shape := ⟨3, ![4, 8192, 2840]⟩
abbrev S4x8192x512 : Shape := ⟨3, ![4, 8192, 512]⟩
abbrev S4x8192x128 : Shape := ⟨3, ![4, 8192, 128]⟩
abbrev S4x8192x24 : Shape := ⟨3, ![4, 8192, 24]⟩
abbrev S4x8192x2x64 : Shape := ⟨4, ![4, 8192, 2, 64]⟩
abbrev S4x8192x2 : Shape := ⟨3, ![4, 8192, 2]⟩
abbrev S4x8192x2x1 : Shape := ⟨4, ![4, 8192, 2, 1]⟩
abbrev S1x1x1x64 : Shape := ⟨4, ![1, 1, 1, 64]⟩
abbrev S4x8194x512 : Shape := ⟨3, ![4, 8194, 512]⟩
abbrev S1x512 : Shape := ⟨2, ![1, 512]⟩
abbrev S512 : Shape := ⟨1, ![512]⟩
abbrev S1x1x512 : Shape := ⟨3, ![1, 1, 512]⟩

abbrev nBuf : Space → Nat
  | .hbm => 107
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x6x1024, .f32⟩
  | .hbm, ⟨2, _⟩ => ⟨S1024, .f32⟩
  | .hbm, ⟨3, _⟩ => ⟨S1024x2840, .f32⟩
  | .hbm, ⟨4, _⟩ => ⟨S64, .f32⟩
  | .hbm, ⟨5, _⟩ => ⟨S64, .f32⟩
  | .hbm, ⟨6, _⟩ => ⟨S3x512, .f32⟩
  | .hbm, ⟨7, _⟩ => ⟨S4x1x1024, .f32⟩
  | .hbm, ⟨8, _⟩ => ⟨S4x1x1024, .f32⟩
  | .hbm, ⟨9, _⟩ => ⟨S4x8192x1024, .f32⟩
  | .hbm, ⟨10, _⟩ => ⟨S_, .f32⟩
  | .hbm, ⟨11, _⟩ => ⟨S4x8192, .f32⟩
  | .hbm, ⟨12, _⟩ => ⟨S4x8192x1, .f32⟩
  | .hbm, ⟨13, _⟩ => ⟨S_, .f32⟩
  | .hbm, ⟨14, _⟩ => ⟨S4x8192x1, .f32⟩
  | .hbm, ⟨15, _⟩ => ⟨S4x8192x1, .f32⟩
  | .hbm, ⟨16, _⟩ => ⟨S_, .f32⟩
  | .hbm, ⟨17, _⟩ => ⟨S4x8192x1, .f32⟩
  | .hbm, ⟨18, _⟩ => ⟨S4x8192x1, .f32⟩
  | .hbm, ⟨19, _⟩ => ⟨S4x8192x1, .f32⟩
  | .hbm, ⟨20, _⟩ => ⟨S4x8192x1024, .f32⟩
  | .hbm, ⟨21, _⟩ => ⟨S4x8192x1024, .f32⟩
  | .hbm, ⟨22, _⟩ => ⟨S1x1x1024, .f32⟩
  | .hbm, ⟨23, _⟩ => ⟨S4x8192x1024, .f32⟩
  | .hbm, ⟨24, _⟩ => ⟨S4x8192x1024, .f32⟩
  | .hbm, ⟨25, _⟩ => ⟨S_, .f32⟩
  | .hbm, ⟨26, _⟩ => ⟨S4x1x1024, .f32⟩
  | .hbm, ⟨27, _⟩ => ⟨S4x1x1024, .f32⟩
  | .hbm, ⟨28, _⟩ => ⟨S4x8192x1024, .f32⟩
  | .hbm, ⟨29, _⟩ => ⟨S4x8192x1024, .f32⟩
  | .hbm, ⟨30, _⟩ => ⟨S4x8192x1024, .f32⟩
  | .hbm, ⟨31, _⟩ => ⟨S4x8192x1024, .f32⟩
  | .hbm, ⟨32, _⟩ => ⟨S4x8192x2840, .f32⟩
  | .hbm, ⟨33, _⟩ => ⟨S4x8192x512, .f32⟩
  | .hbm, ⟨34, _⟩ => ⟨S4x8192x128, .f32⟩
  | .hbm, ⟨35, _⟩ => ⟨S4x8192x128, .f32⟩
  | .hbm, ⟨36, _⟩ => ⟨S4x8192x128, .f32⟩
  | .hbm, ⟨37, _⟩ => ⟨S4x8192x128, .f32⟩
  | .hbm, ⟨38, _⟩ => ⟨S4x8192x128, .f32⟩
  | .hbm, ⟨39, _⟩ => ⟨S4x8192x128, .f32⟩
  | .hbm, ⟨40, _⟩ => ⟨S4x8192x24, .f32⟩
  | .hbm, ⟨41, _⟩ => ⟨S4x8192x512, .f32⟩
  | .hbm, ⟨42, _⟩ => ⟨S4x8192x512, .f32⟩
  | .hbm, ⟨43, _⟩ => ⟨S4x8192x512, .f32⟩
  | .hbm, ⟨44, _⟩ => ⟨S4x8192x2x64, .f32⟩
  | .hbm, ⟨45, _⟩ => ⟨S4x8192x2x64, .f32⟩
  | .hbm, ⟨46, _⟩ => ⟨S_, .f32⟩
  | .hbm, ⟨47, _⟩ => ⟨S4x8192x2, .f32⟩
  | .hbm, ⟨48, _⟩ => ⟨S4x8192x2x1, .f32⟩
  | .hbm, ⟨49, _⟩ => ⟨S_, .f32⟩
  | .hbm, ⟨50, _⟩ => ⟨S4x8192x2x1, .f32⟩
  | .hbm, ⟨51, _⟩ => ⟨S4x8192x2x1, .f32⟩
  | .hbm, ⟨52, _⟩ => ⟨S_, .f32⟩
  | .hbm, ⟨53, _⟩ => ⟨S4x8192x2x1, .f32⟩
  | .hbm, ⟨54, _⟩ => ⟨S4x8192x2x1, .f32⟩
  | .hbm, ⟨55, _⟩ => ⟨S4x8192x2x1, .f32⟩
  | .hbm, ⟨56, _⟩ => ⟨S4x8192x2x64, .f32⟩
  | .hbm, ⟨57, _⟩ => ⟨S4x8192x2x64, .f32⟩
  | .hbm, ⟨58, _⟩ => ⟨S1x1x1x64, .f32⟩
  | .hbm, ⟨59, _⟩ => ⟨S4x8192x2x64, .f32⟩
  | .hbm, ⟨60, _⟩ => ⟨S4x8192x2x64, .f32⟩
  | .hbm, ⟨61, _⟩ => ⟨S4x8192x128, .f32⟩
  | .hbm, ⟨62, _⟩ => ⟨S4x8192x2x64, .f32⟩
  | .hbm, ⟨63, _⟩ => ⟨S4x8192x2x64, .f32⟩
  | .hbm, ⟨64, _⟩ => ⟨S_, .f32⟩
  | .hbm, ⟨65, _⟩ => ⟨S4x8192x2, .f32⟩
  | .hbm, ⟨66, _⟩ => ⟨S4x8192x2x1, .f32⟩
  | .hbm, ⟨67, _⟩ => ⟨S_, .f32⟩
  | .hbm, ⟨68, _⟩ => ⟨S4x8192x2x1, .f32⟩
  | .hbm, ⟨69, _⟩ => ⟨S4x8192x2x1, .f32⟩
  | .hbm, ⟨70, _⟩ => ⟨S_, .f32⟩
  | .hbm, ⟨71, _⟩ => ⟨S4x8192x2x1, .f32⟩
  | .hbm, ⟨72, _⟩ => ⟨S4x8192x2x1, .f32⟩
  | .hbm, ⟨73, _⟩ => ⟨S4x8192x2x1, .f32⟩
  | .hbm, ⟨74, _⟩ => ⟨S4x8192x2x64, .f32⟩
  | .hbm, ⟨75, _⟩ => ⟨S4x8192x2x64, .f32⟩
  | .hbm, ⟨76, _⟩ => ⟨S1x1x1x64, .f32⟩
  | .hbm, ⟨77, _⟩ => ⟨S4x8192x2x64, .f32⟩
  | .hbm, ⟨78, _⟩ => ⟨S4x8192x2x64, .f32⟩
  | .hbm, ⟨79, _⟩ => ⟨S4x8192x128, .f32⟩
  | .hbm, ⟨80, _⟩ => ⟨S4x8192x512, .f32⟩
  | .hbm, ⟨81, _⟩ => ⟨S_, .i32⟩
  | .hbm, ⟨82, _⟩ => ⟨S_, .f32⟩
  | .hbm, ⟨83, _⟩ => ⟨S4x8194x512, .f32⟩
  | .hbm, ⟨84, _⟩ => ⟨S1x512, .f32⟩
  | .hbm, ⟨85, _⟩ => ⟨S512, .f32⟩
  | .hbm, ⟨86, _⟩ => ⟨S4x8192x512, .f32⟩
  | .hbm, ⟨87, _⟩ => ⟨S1x1x512, .f32⟩
  | .hbm, ⟨88, _⟩ => ⟨S4x8192x512, .f32⟩
  | .hbm, ⟨89, _⟩ => ⟨S4x8192x512, .f32⟩
  | .hbm, ⟨90, _⟩ => ⟨S1x512, .f32⟩
  | .hbm, ⟨91, _⟩ => ⟨S512, .f32⟩
  | .hbm, ⟨92, _⟩ => ⟨S4x8192x512, .f32⟩
  | .hbm, ⟨93, _⟩ => ⟨S1x1x512, .f32⟩
  | .hbm, ⟨94, _⟩ => ⟨S4x8192x512, .f32⟩
  | .hbm, ⟨95, _⟩ => ⟨S4x8192x512, .f32⟩
  | .hbm, ⟨96, _⟩ => ⟨S4x8192x512, .f32⟩
  | .hbm, ⟨97, _⟩ => ⟨S1x512, .f32⟩
  | .hbm, ⟨98, _⟩ => ⟨S512, .f32⟩
  | .hbm, ⟨99, _⟩ => ⟨S1x1x512, .f32⟩
  | .hbm, ⟨100, _⟩ => ⟨S4x8192x512, .f32⟩
  | .hbm, ⟨101, _⟩ => ⟨S4x8192x512, .f32⟩
  | .hbm, ⟨102, _⟩ => ⟨S4x8192x512, .f32⟩
  | .hbm, ⟨103, _⟩ => ⟨S4x8192x512, .f32⟩
  | .hbm, ⟨104, _⟩ => ⟨S4x8192x128, .bf16⟩
  | .hbm, ⟨105, _⟩ => ⟨S4x8192x128, .bf16⟩
  | .hbm, ⟨106, _⟩ => ⟨S4x8192x512, .bf16⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_3 : Ref sig .tc := ⟨.hbm, 46, rfl⟩
abbrev main_v35 : Ref sig .tc := ⟨.hbm, 47, rfl⟩
abbrev main_v36 : Ref sig .tc := ⟨.hbm, 48, rfl⟩
abbrev main_cst_4 : Ref sig .tc := ⟨.hbm, 49, rfl⟩
abbrev main_v37 : Ref sig .tc := ⟨.hbm, 50, rfl⟩
abbrev main_v38 : Ref sig .tc := ⟨.hbm, 51, rfl⟩
abbrev main_cst_5 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_cst_6 : Ref sig .tc := ⟨.hbm, 64, rfl⟩
abbrev main_v50 : Ref sig .tc := ⟨.hbm, 65, rfl⟩
abbrev main_v51 : Ref sig .tc := ⟨.hbm, 66, rfl⟩
abbrev main_cst_7 : Ref sig .tc := ⟨.hbm, 67, rfl⟩
abbrev main_v52 : Ref sig .tc := ⟨.hbm, 68, rfl⟩
abbrev main_v53 : Ref sig .tc := ⟨.hbm, 69, rfl⟩
abbrev main_cst_8 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_c : Ref sig .tc := ⟨.hbm, 81, rfl⟩
abbrev main_call0_v0 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩

abbrev nD : Nat := 1
abbrev τ : Topo := Topo.v7x

variable {F : FTy → Type} [FloatOps F]
-- ==== Proof.FfnMath.lean ====
module

public import Idealize.ShloMosaic.Lib.Pointwise

/-! One token's output projection and feed-forward, as plain functions of its row and the weights. -/

@[expose] public section

noncomputable section

namespace Cert.Proof.Ffn

open Idealize.ShloMosaic

/-- The two halves' heads side by side. -/
def heads (a c : Fin 512 → EReal) (k : Fin 1024) : EReal :=
  if h : (k : ℕ) < 512 then a ⟨k, h⟩ else c ⟨(k : ℕ) - 512, by omega⟩

/-- The residual row after the gated output projection. -/
def mixed (x g h : Fin 1024 → EReal) (wo : Fin 1024 → Fin 1024 → EReal) (j : Fin 1024) : EReal :=
  x j + g j * ∑ k : Fin 1024, h k * wo k j

/-- The row normalised by its root mean square, scaled and shifted. -/
def normed (x n sc sh : Fin 1024 → EReal) (j : Fin 1024) : EReal :=
  x j * Ideal.rsqrt (Ideal.div (∑ k : Fin 1024, x k * x k) (Ideal.ofBits FTy.f32 0x44800000#32)
    + Ideal.ofBits FTy.f32 0x358637BD#32) * n j * (1 + sc j) + sh j

/-- The hidden layer: the square of the positive part. -/
def hidden (h : Fin 1024 → EReal) (w1 : Fin 1024 → Fin 4096 → EReal) (f : Fin 4096) : EReal :=
  max (∑ k : Fin 1024, h k * w1 k f) 0 * max (∑ k : Fin 1024, h k * w1 k f) 0

/-- The row that leaves the layer. -/
def outRow (x g : Fin 1024 → EReal) (u : Fin 4096 → EReal) (w2 : Fin 4096 → Fin 1024 → EReal) (j : Fin 1024) : EReal :=
  x j + g j * ∑ f : Fin 4096, u f * w2 f j

/-- A product over the side-by-side heads is the sum of the halves' products. -/
theorem sum_heads (a c : Fin 512 → EReal) (w : Fin 1024 → EReal) :
    ∑ k : Fin 1024, heads a c k * w k
      = (∑ k : Fin 512, a k * w ⟨k, by omega⟩) + ∑ k : Fin 512, c k * w ⟨512 + (k : ℕ), by omega⟩ := by
  rw [Fin.sum_univ_two_halves 512 512 rfl]
  refine congr_arg₂ _ (Finset.sum_congr rfl fun k _ => ?_) (Finset.sum_congr rfl fun k _ => ?_) <;> simp [heads]

/-- A sum over the hidden layer in four consecutive chunks. -/
theorem sum_chunks (f : Fin 4096 → EReal) :
    ∑ k : Fin 4096, f k
      = (∑ k : Fin 1024, f ⟨k, by omega⟩) + (∑ k : Fin 1024, f ⟨1024 + (k : ℕ), by omega⟩)
        + (∑ k : Fin 1024, f ⟨2048 + (k : ℕ), by omega⟩) + ∑ k : Fin 1024, f ⟨3072 + (k : ℕ), by omega⟩ := by
  rw [Fin.sum_univ_two_halves 3072 1024 rfl, Fin.sum_univ_two_halves 2048 1024 rfl, Fin.sum_univ_two_halves 1024 1024 rfl]

end Cert.Proof.Ffn

end
-- ==== Proof.FfnKernel.lean ====
module

public import proofs.«01_k».proof.Proof.FfnMath
public import proofs.«01_k».proof.Proof.Gen.FfnIdeal.Value
public import Idealize.ShloMosaic.Lib.Pipeline.ValueKit

/-! What the feed-forward call leaves in its result array, index by index. -/

@[expose] public section

set_option maxRecDepth 16384

noncomputable section

namespace Cert.Proof.Ffn

open Cert.FfnIdeal Cert.FfnIdeal.Gen Idealize.ShloMosaic Idealize.ShloMosaic.TcCoe

section
variable (x0 : Vec Ideal S1x512x1024 .f32) (x1 : Vec Ideal S1x512x512 .bf16) (x2 : Vec Ideal S1x512x512 .bf16)
  (x3 : Vec Ideal S1x6x1024 .f32) (x4 : Vec Ideal S1x1024 .f32) (x5 : Vec Ideal S1024x1024 .bf16)
  (x6 : Vec Ideal S1024x4096 .bf16) (x7 : Vec Ideal S4096x1024 .bf16)

/-- Row `r` of the block after the output projection, -/
def blkMixed (r : Fin 512) : Fin 1024 → EReal :=
  mixed (fun j => x0 (ix3 0 r j)) (fun j => x3 (ix3 0 2 j)) (heads (fun k => x1 (ix3 0 r k)) fun k => x2 (ix3 0 r k))
    fun k j => x5 (ix2 k j)

/-- and normalised. -/
def blkNormed (r : Fin 512) : Fin 1024 → EReal :=
  normed (blkMixed x0 x1 x2 x3 x5 r) (fun j => x4 (ix2 0 j)) (fun j => x3 (ix3 0 4 j)) fun j => x3 (ix3 0 3 j)

theorem pay2_apply (r : Fin 512) (j : Fin 1024) :
    k0_pay2 x1 (View.ld x5 r0_1) x2 (View.ld x5 r0_2) x0 (View.ld x3 r0_4) (ix2 r j) = blkMixed x0 x1 x2 x3 x5 r j := by
  pointwise [k0_pay2]
  unfold blkMixed mixed
  rw [sum_heads]

theorem pay2_ld_apply (r : Fin 512) (j : Fin 1024) :
    k0_pay2 (View.ld x1 r0_0) (View.ld x5 r0_1) (View.ld x2 r0_0) (View.ld x5 r0_2) (View.ld x0 r0_3) (View.ld x3 r0_4) (ix2 r j)
      = blkMixed x0 x1 x2 x3 x5 r j := by
  pointwise [k0_pay2]
  unfold blkMixed mixed
  rw [sum_heads]

theorem pay4_apply (r : Fin 512) (j : Fin 1024) :
    k0_pay4 (k0_pay7 x0 x1 x2 x3 x4 x5 x6 x7) (View.ld x3 r0_6) (View.ld x3 r0_7) (ix2 r j)
      = blkNormed x0 x1 x2 x3 x4 x5 r j := by
  pointwise [k0_pay4, k0_pay7, k0_pay3]
  simp only [pay2_ld_apply]
  rfl

/-- The block the body stores, at a row and a column. -/
theorem out_apply (r : Fin 512) (j : Fin 1024) :
    out0_8 x0 x1 x2 x3 x4 x5 x6 x7 (ix3 0 r j)
      = outRow (blkMixed x0 x1 x2 x3 x5 r) (fun j => x3 (ix3 0 5 j))
          (hidden (blkNormed x0 x1 x2 x3 x4 x5 r) fun k f => x6 (ix2 k f)) (fun f j => x7 (ix2 f j)) j := by
  frame_out
  pointwise [k0_pay1, k0_pay5, k0_pay6]
  simp only [pay2_apply, pay4_apply]
  unfold outRow
  rw [sum_chunks]
  rfl

end

variable (m : (ℓ : Loc nD τ sig) → Buf (Elt Ideal) ℓ)

/-- The result array of the call on core `c`, from the launched arguments. -/
def result (X : Vec Ideal S4x8192x1024 .f32) (A C : Vec Ideal S4x8192x512 .bf16) (M : Vec Ideal S4x6x1024 .f32)
    (N : Vec Ideal S1024 .f32) (Wo : Vec Ideal S1024x1024 .f32) (W1 : Vec Ideal S1024x4096 .f32)
    (W2 : Vec Ideal S4096x1024 .f32) (i : S4x8192x1024.Idx) : EReal :=
  let x := mixed (fun j => X (ix3 (i 0) (i 1) j)) (fun j => M (ix3 (i 0) 2 j))
    (heads (fun k => A (ix3 (i 0) (i 1) k)) fun k => C (ix3 (i 0) (i 1) k)) fun k j => Wo (ix2 k j)
  outRow x (fun j => M (ix3 (i 0) 5 j))
    (hidden (normed x (fun j => N (ix1 j)) (fun j => M (ix3 (i 0) 4 j)) fun j => M (ix3 (i 0) 3 j)) fun k f => W1 (ix2 k f))
    (fun f j => W2 (ix2 f j)) (i 2)

theorem idx (t : Fin cfg0.N) : win0_0.index t = ![(grid0.coords t 0).val, (grid0.coords t 1).val, 0]
    ∧ win0_1.index t = ![(grid0.coords t 0).val, (grid0.coords t 1).val, 0]
    ∧ win0_2.index t = ![(grid0.coords t 0).val, (grid0.coords t 1).val, 0]
    ∧ win0_3.index t = ![(grid0.coords t 0).val, 0, 0] ∧ win0_4.index t = ![0, 0]
    ∧ win0_5.index t = ![0, 0] ∧ win0_6.index t = ![0, 0] ∧ win0_7.index t = ![0, 0]
    ∧ win0_8.index t = ![(grid0.coords t 0).val, (grid0.coords t 1).val, 0] :=
  (by decide +kernel : ∀ t : Fin grid0.N, win0_0.index t = ![(grid0.coords t 0).val, (grid0.coords t 1).val, 0]
    ∧ win0_1.index t = ![(grid0.coords t 0).val, (grid0.coords t 1).val, 0]
    ∧ win0_2.index t = ![(grid0.coords t 0).val, (grid0.coords t 1).val, 0]
    ∧ win0_3.index t = ![(grid0.coords t 0).val, 0, 0] ∧ win0_4.index t = ![0, 0]
    ∧ win0_5.index t = ![0, 0] ∧ win0_6.index t = ![0, 0] ∧ win0_7.index t = ![0, 0]
    ∧ win0_8.index t = ![(grid0.coords t 0).val, (grid0.coords t 1).val, 0]) t

/-- The array row that row `r` of point `t`'s block is. -/
def tok (t : Fin cfg0.N) (r : Fin 512) : Fin 8192 :=
  ⟨(grid0.coords t 1).val * 512 + r, by have : (grid0.coords t 1).val < 16 := (grid0.coords t 1).isLt; omega⟩

theorem blk0 (c : Dev nD) (t : Fin cfg0.N) (r : Fin 512) (j : Fin 1024) :
    iblk m c 0 t (ix3 0 r j) = m ((c : Thread nD τ).loc main_arg0) (ix3 (grid0.coords t 0) (tok t r) j) := by
  unfold tok
  blk_ext! [iblk, V, idx t]
theorem blk1 (c : Dev nD) (t : Fin cfg0.N) (r : Fin 512) (j : Fin 512) :
    iblk m c 1 t (ix3 0 r j) = m ((c : Thread nD τ).loc main_arg1) (ix3 (grid0.coords t 0) (tok t r) j) := by
  unfold tok
  blk_ext! [iblk, V, idx t]
theorem blk2 (c : Dev nD) (t : Fin cfg0.N) (r : Fin 512) (j : Fin 512) :
    iblk m c 2 t (ix3 0 r j) = m ((c : Thread nD τ).loc main_arg2) (ix3 (grid0.coords t 0) (tok t r) j) := by
  unfold tok
  blk_ext! [iblk, V, idx t]
theorem blk3 (c : Dev nD) (t : Fin cfg0.N) (r : Fin 6) (j : Fin 1024) :
    iblk m c 3 t (ix3 0 r j) = m ((c : Thread nD τ).loc main_arg3) (ix3 (grid0.coords t 0) r j) := by
  blk_ext! [iblk, V, idx t]
theorem blk4 (c : Dev nD) (t : Fin cfg0.N) (j : Fin 1024) :
    iblk m c 4 t (ix2 0 j) = m ((c : Thread nD τ).loc main_arg4) (ix1 j) := by
  blk_ext! [iblk, V, idx t]
theorem blk5 (c : Dev nD) (t : Fin cfg0.N) (k j : Fin 1024) :
    iblk m c 5 t (ix2 k j) = m ((c : Thread nD τ).loc main_arg5) (ix2 k j) := by
  blk_ext! [iblk, V, idx t]
theorem blk6 (c : Dev nD) (t : Fin cfg0.N) (k : Fin 1024) (j : Fin 4096) :
    iblk m c 6 t (ix2 k j) = m ((c : Thread nD τ).loc main_arg6) (ix2 k j) := by
  blk_ext! [iblk, V, idx t]
theorem blk7 (c : Dev nD) (t : Fin cfg0.N) (k : Fin 4096) (j : Fin 1024) :
    iblk m c 7 t (ix2 k j) = m ((c : Thread nD τ).loc main_arg7) (ix2 k j) := by
  blk_ext! [iblk, V, idx t]

theorem arr_eq (c : Dev nD) : (dats m 0 c).arrAt 8 cfg0.N
    = result (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) := by
  refine (dats m 0 c).arrAt_eq_of_covers 8 _ (by decide +kernel) fun t hf y => ?_
  blk_simp
  rw [after0_8]
  obtain ⟨y0, r, j, rfl⟩ : ∃ (a : Fin 1) (b : Fin 512) (d : Fin 1024), y = ix3 a b d := ⟨y 0, y 1, y 2, eq_ix3 y⟩
  obtain rfl : y0 = 0 := Subsingleton.elim _ _
  rw [out_apply]
  rw [show (win0_8.blk t).view.emb (ix3 0 r j) = ix3 (grid0.coords t 0) (tok t r) j by unfold tok; blk_ext [idx t]]
  unfold blkNormed blkMixed
  simp only [blk0, blk1, blk2, blk3, blk4, blk5, blk6, blk7]
  rfl

end Cert.Proof.Ffn

end
-- ==== Proof.FfnRef.lean ====
module

public import proofs.«01_k».proof.Proof.FfnMath
public import proofs.«01_k».proof.Proof.Gen.FfnRefIdeal.Read
public import Idealize.ShloMosaic.Lib.Pipeline.ValueKit

/-! The feed-forward reference at an index. -/

@[expose] public section

set_option maxRecDepth 16384

noncomputable section

namespace Cert.Proof.Ffn

open Cert.FfnRefIdeal Cert.FfnRefIdeal.Gen Cert.FfnRefIdeal.Read Idealize.ShloMosaic Idealize.ShloMosaic.TcCoe

variable (X : Vec Ideal S4x8192x1024 .f32) (A C : Vec Ideal S4x8192x512 .bf16) (M : Vec Ideal S4x6x1024 .f32)
    (N : Vec Ideal S1024 .f32) (Wo : Vec Ideal S1024x1024 .f32) (W1 : Vec Ideal S1024x4096 .f32)
    (W2 : Vec Ideal S4096x1024 .f32) (b : Fin 4) (r : Fin 8192)

theorem ref_heads (k : Fin 1024) : val_main_v6 (F := Ideal) A C (ix3 b r k)
    = heads (fun k => A (ix3 b r k)) (fun k => C (ix3 b r k)) k := by
  pointwise [val_main_v6, val_main_v4, val_main_v5]
  rfl

/-- The row after the output projection, -/
def refMixed : Fin 1024 → EReal :=
  mixed (fun j => X (ix3 b r j)) (fun j => M (ix3 b 2 j)) (heads (fun k => A (ix3 b r k)) fun k => C (ix3 b r k))
    fun k j => Wo (ix2 k j)

theorem ref_mixed (j : Fin 1024) : val_main_v10 (F := Ideal) X A C M Wo (ix3 b r j) = refMixed X A C M Wo b r j := by
  pointwise [val_main_v10, val_main_v9, val_main_v8, val_main_v0, val_main_v7]
  simp only [ref_heads]
  rfl

/-- and normalised. -/
def refNormed : Fin 1024 → EReal :=
  normed (refMixed X A C M Wo b r) (fun j => N (ix1 j)) (fun j => M (ix3 b 4 j)) fun j => M (ix3 b 3 j)

theorem ref_normed (j : Fin 1024) : val_main_v29 (F := Ideal) X A C M N Wo (ix3 b r j) = refNormed X A C M N Wo b r j := by
  pointwise [val_main_v29, val_main_v28, val_main_v27, val_main_v26, val_main_v25, val_main_v24, val_main_v23, val_main_v22,
    val_main_v21, val_main_v20, val_main_v19, val_main_v18, val_main_v17, val_main_v16, val_main_v15, val_main_v14,
    val_main_v13, val_main_v12, val_main_v11, val_main_v1, val_main_v2, val_main_cst, val_main_cst_0, val_main_cst_1,
    val_main_cst_2]
  simp only [ref_mixed]
  rfl

theorem ref_out (j : Fin 1024) : val_main_v36 (F := Ideal) X A C M N Wo W1 W2 (ix3 b r j)
    = outRow (refMixed X A C M Wo b r) (fun j => M (ix3 b 5 j))
        (hidden (refNormed X A C M N Wo b r) fun k f => W1 (ix2 k f)) (fun f j => W2 (ix2 f j)) j := by
  pointwise [val_main_v36, val_main_v35, val_main_v34, val_main_v33, val_main_v32, val_main_v31, val_main_v30, val_main_v3,
    val_main_call0_v0, val_main_call0_cst]
  simp only [ref_mixed, ref_normed]
  rfl

end Cert.Proof.Ffn

end
-- ==== Proof.FfnTie.lean ====
module

public import proofs.«01_k».proof.Defs
public import proofs.«01_k».proof.Proof.FfnKernel
public import proofs.«01_k».proof.Proof.FfnRef

/-! The feed-forward call and its reference end with one and the same array. -/

@[expose] public section

set_option maxRecDepth 16384

noncomputable section

namespace Cert.Proof.Ffn

open Idealize.ShloMosaic Idealize.ShloMosaic.TcCoe Idealize.SL.Sem

theorem ref_eq (m : (ℓ : Loc Cert.FfnRefIdeal.nD Cert.FfnRefIdeal.τ Cert.FfnRefIdeal.sig) → Buf (Elt Ideal) ℓ) (c : Dev Cert.FfnRefIdeal.nD) :
    Cert.FfnRefIdeal.Value.res_main_v36 m c
      = result (m ((c.tc : Thread Cert.FfnRefIdeal.nD Cert.FfnRefIdeal.τ).loc Cert.FfnRefIdeal.main_arg0))
        (m ((c.tc : Thread Cert.FfnRefIdeal.nD Cert.FfnRefIdeal.τ).loc Cert.FfnRefIdeal.main_arg1))
        (m ((c.tc : Thread Cert.FfnRefIdeal.nD Cert.FfnRefIdeal.τ).loc Cert.FfnRefIdeal.main_arg2))
        (m ((c.tc : Thread Cert.FfnRefIdeal.nD Cert.FfnRefIdeal.τ).loc Cert.FfnRefIdeal.main_arg3))
        (m ((c.tc : Thread Cert.FfnRefIdeal.nD Cert.FfnRefIdeal.τ).loc Cert.FfnRefIdeal.main_arg4))
        (m ((c.tc : Thread Cert.FfnRefIdeal.nD Cert.FfnRefIdeal.τ).loc Cert.FfnRefIdeal.main_arg5))
        (m ((c.tc : Thread Cert.FfnRefIdeal.nD Cert.FfnRefIdeal.τ).loc Cert.FfnRefIdeal.main_arg6))
        (m ((c.tc : Thread Cert.FfnRefIdeal.nD Cert.FfnRefIdeal.τ).loc Cert.FfnRefIdeal.main_arg7)) := by
  rw [Cert.FfnRefIdeal.Read.val_main_v36_eq]
  funext i
  obtain ⟨b, r, j, rfl⟩ : ∃ (b : Fin 4) (r : Fin 8192) (j : Fin 1024), i = ix3 b r j := ⟨i 0, i 1, i 2, eq_ix3 i⟩
  exact ref_out _ _ _ _ _ _ _ _ b r j

theorem algebraic : Cert.algebraic_FfnIdeal_FfnRefIdeal (hFfnIdeal := Cert.FfnIdeal.Gen.facts) (hFfnRefIdeal := Cert.FfnRefIdeal.Gen.facts) :=
  fun m ρ m' ρ' _ hag => ⟨fun c => (Cert.FfnIdeal.Gen.dats m 0 c).arrAt 8 Cert.FfnIdeal.cfg0.N,
    Cert.FfnIdeal.Value.run_blocks m ρ,
    (θ_run _ _ _).mono (fun r h c => ⟨(h c).1.trans (by
      obtain ⟨h0, h1, h2, h3, h4, h5, h6, h7⟩ := hag c
      rw [ref_eq, h0, h1, h2, h3, h4, h5, h6, h7]
      exact (arr_eq m c).symm), (h c).2⟩) (Cert.FfnRefIdeal.Value.run m' ρ')⟩

/-- The reference writes none of its arguments; it has no semaphore to leave raised. -/
theorem frame_ref [hFfnRefIdeal : Cert.FfnRefIdeal.Facts] : Cert.quiescent_FfnRefIdeal (hFfnRefIdeal := hFfnRefIdeal) := fun m ρ _ =>
  (θ_run Cert.FfnRefIdeal.defs _ _).mono
    (fun r h => ⟨fun c => (h c).2, sem_eq_zero_of_no_sems (by decide) r.2⟩) (Cert.FfnRefIdeal.Value.run m ρ)

end Cert.Proof.Ffn

end
-- ==== Proof.InprojMath.lean ====
module

public import proofs.«01_k».proof.Proof.FfnMath

/-! One token's input projection and the head normalisation, as plain functions of its row and the weights. -/

@[expose] public section

noncomputable section

namespace Cert.Proof.Inproj

open Idealize.ShloMosaic

/-- A projected column: the token's row against the column's weights. -/
def col (h w : Fin 1024 → EReal) : EReal := ∑ k : Fin 1024, h k * w k

/-- Entry `d` of a head normalised by its root mean square, with gain `g`. -/
def unit (v : Fin 64 → EReal) (g : EReal) (d : Fin 64) : EReal :=
  v d * Ideal.rsqrt (Ideal.div (∑ e : Fin 64, v e * v e) (Ideal.ofBits FTy.f32 0x42800000#32)
    + Ideal.ofBits FTy.f32 0x358637BD#32) * g

/-- The causal convolution of three taps over the products `z`, oldest first. -/
def taps (w0 w1 w2 z2 z1 z0 : EReal) : EReal := w0 * z2 + w1 * z1 + w2 * z0

end Cert.Proof.Inproj

end
-- ==== Proof.InprojBlocks.lean ====
module

public import proofs.«01_k».proof.Proof.InprojMath
public import proofs.«01_k».proof.Proof.Gen.InprojIdeal.Value
public import Idealize.ShloMosaic.Lib.Pipeline.ValueKit
public import Idealize.ShloMosaic.Lib.StableHlo.RunRead

@[expose] public section

set_option maxRecDepth 16384
set_option maxHeartbeats 800000

noncomputable section

namespace Cert.Proof.Inproj

open Cert.InprojIdeal Cert.InprojIdeal.Gen Idealize.ShloMosaic Idealize.ShloMosaic.TcCoe

variable (m : (ℓ : Loc nD τ sig) → Buf (Elt Ideal) ℓ) (c : Dev nD) (t : Fin cfg0.N)

theorem idx (t : Fin cfg0.N) : win0_0.index t = ![(grid0.coords t 0).val, (grid0.coords t 1).val, 0]
    ∧ win0_1.index t = ![(grid0.coords t 0).val, 0, 0] ∧ win0_2.index t = ![0, 0] ∧ win0_3.index t = ![0, 0]
    ∧ win0_4.index t = ![0, 0] ∧ win0_5.index t = ![0, 0] ∧ win0_6.index t = ![0, 0] ∧ win0_7.index t = ![0, 0]
    ∧ win0_8.index t = ![0, 0] ∧ win0_9.index t = ![0, 0] :=
  (by decide +kernel : ∀ t : Fin grid0.N, win0_0.index t = ![(grid0.coords t 0).val, (grid0.coords t 1).val, 0]
    ∧ win0_1.index t = ![(grid0.coords t 0).val, 0, 0] ∧ win0_2.index t = ![0, 0] ∧ win0_3.index t = ![0, 0]
    ∧ win0_4.index t = ![0, 0] ∧ win0_5.index t = ![0, 0] ∧ win0_6.index t = ![0, 0] ∧ win0_7.index t = ![0, 0]
    ∧ win0_8.index t = ![0, 0] ∧ win0_9.index t = ![0, 0]) t

/-- The token that row `r` of point `t`'s block is. -/
def tok (t : Fin cfg0.N) (r : Fin 1024) : Fin 8192 :=
  ⟨(grid0.coords t 1).val * 1024 + r, by have : (grid0.coords t 1).val < 8 := (grid0.coords t 1).isLt; omega⟩

theorem blk0 (r j : Fin 1024) :
    iblk m c 0 t (ix3 0 r j) = m ((c : Thread nD τ).loc main_arg0) (ix3 (grid0.coords t 0) (tok t r) j) := by
  unfold tok
  blk_ext! [iblk, V, idx t]
theorem blk1 (r : Fin 6) (j : Fin 1024) :
    iblk m c 1 t (ix3 0 r j) = m ((c : Thread nD τ).loc main_arg1) (ix3 (grid0.coords t 0) r j) := by
  blk_ext! [iblk, V, idx t]
theorem blk7 (r : Fin 3) (j : Fin 512) : iblk m c 7 t (ix2 r j) = m ((c : Thread nD τ).loc main_arg6) (ix2 r j) := by
  blk_ext! [iblk, V, idx t]

/-! The weight of the natural-layout products, read where each of its seven column groups lies. -/

section
variable (x0 x1 x2 x3 : FVec Ideal S1024x128 .f32) (x4 x5 x6 : FVec Ideal S1024x512 .f32)

abbrev join7 : FVec Ideal S1024x2048 .bf16 :=
  truncf .bf16 (concatenate S1024x2048 1 [⟨S1024x128, x0⟩, ⟨S1024x128, x1⟩, ⟨S1024x128, x2⟩, ⟨S1024x128, x3⟩, ⟨S1024x512, x4⟩,
    ⟨S1024x512, x5⟩, ⟨S1024x512, x6⟩]
    concatenates_S1024x128_S1024x128_S1024x128_S1024x128_S1024x512_S1024x512_S1024x512_S1024x2048_d1) bitsLt_bf16_f32

theorem join7_0 (k : Fin 1024) (j : Fin 128) : join7 x0 x1 x2 x3 x4 x5 x6 (ix2 k ⟨0 + j, by omega⟩) = x0 (ix2 k j) := by
  pointwise
theorem join7_1 (k : Fin 1024) (j : Fin 128) : join7 x0 x1 x2 x3 x4 x5 x6 (ix2 k ⟨128 + j, by omega⟩) = x1 (ix2 k j) := by
  pointwise
theorem join7_2 (k : Fin 1024) (j : Fin 128) : join7 x0 x1 x2 x3 x4 x5 x6 (ix2 k ⟨256 + j, by omega⟩) = x2 (ix2 k j) := by
  pointwise
  iterate 2 rw [dif_neg (by omega)]
  rw [dif_pos (by omega)]
  exact congrArg (fun i => x2 (ix2 k i)) (Fin.ext (by dsimp only; omega))
theorem join7_3 (k : Fin 1024) (j : Fin 128) : join7 x0 x1 x2 x3 x4 x5 x6 (ix2 k ⟨384 + j, by omega⟩) = x3 (ix2 k j) := by
  pointwise
  iterate 3 rw [dif_neg (by omega)]
  rw [dif_pos (by omega)]
  exact congrArg (fun i => x3 (ix2 k i)) (Fin.ext (by dsimp only; omega))
theorem join7_4 (k : Fin 1024) (j : Fin 512) : join7 x0 x1 x2 x3 x4 x5 x6 (ix2 k ⟨512 + j, by omega⟩) = x4 (ix2 k j) := by
  pointwise
  iterate 4 rw [dif_neg (by omega)]
  rw [dif_pos (by omega)]
  exact congrArg (fun i => x4 (ix2 k i)) (Fin.ext (by dsimp only; omega))
theorem join7_5 (k : Fin 1024) (j : Fin 512) : join7 x0 x1 x2 x3 x4 x5 x6 (ix2 k ⟨1024 + j, by omega⟩) = x5 (ix2 k j) := by
  pointwise
  iterate 5 rw [dif_neg (by omega)]
  rw [dif_pos (by omega)]
  exact congrArg (fun i => x5 (ix2 k i)) (Fin.ext (by dsimp only; omega))
theorem join7_6 (k : Fin 1024) (j : Fin 512) : join7 x0 x1 x2 x3 x4 x5 x6 (ix2 k ⟨1536 + j, by omega⟩) = x6 (ix2 k j) := by
  pointwise
  iterate 6 rw [dif_neg (by omega)]
  exact congrArg (fun i => x6 (ix2 k i)) (Fin.ext (by dsimp only; omega))

end

theorem w_kc (k : Fin 1024) (j : Fin 128) :
    V m c main_v38 (ix2 k ⟨0 + j, by omega⟩) = m ((c : Thread nD τ).loc main_arg3) (ix2 k ⟨512 + j, by omega⟩) := by
  unfold V
  simp only [hostOps0, hostOps0_1, hostOps0_2, hostOps0_3, hostOps0_4, hostOps0_5, hostOps0_6, List.flatten_cons, List.flatten_nil,
    List.append_nil, List.cons_append, List.nil_append]
  after_reads_simp
  refine (join7_0 _ _ _ _ _ _ _ k j).trans ?_
  change StableHlo.upto _ _ _ (Proc.tc.devRef main_v27) _ = _
  after_reads_simp
  pointwise
theorem w_vc (k : Fin 1024) (j : Fin 128) :
    V m c main_v38 (ix2 k ⟨128 + j, by omega⟩) = m ((c : Thread nD τ).loc main_arg3) (ix2 k ⟨640 + j, by omega⟩) := by
  unfold V
  simp only [hostOps0, hostOps0_1, hostOps0_2, hostOps0_3, hostOps0_4, hostOps0_5, hostOps0_6, List.flatten_cons, List.flatten_nil,
    List.append_nil, List.cons_append, List.nil_append]
  after_reads_simp
  refine (join7_1 _ _ _ _ _ _ _ k j).trans ?_
  change StableHlo.upto _ _ _ (Proc.tc.devRef main_v28) _ = _
  after_reads_simp
  pointwise
theorem w_ks (k : Fin 1024) (j : Fin 128) :
    V m c main_v38 (ix2 k ⟨256 + j, by omega⟩) = m ((c : Thread nD τ).loc main_arg3) (ix2 k ⟨768 + j, by omega⟩) := by
  unfold V
  simp only [hostOps0, hostOps0_1, hostOps0_2, hostOps0_3, hostOps0_4, hostOps0_5, hostOps0_6, List.flatten_cons, List.flatten_nil,
    List.append_nil, List.cons_append, List.nil_append]
  after_reads_simp
  refine (join7_2 _ _ _ _ _ _ _ k j).trans ?_
  change StableHlo.upto _ _ _ (Proc.tc.devRef main_v29) _ = _
  after_reads_simp
  pointwise
theorem w_kw (k : Fin 1024) (j : Fin 128) :
    V m c main_v38 (ix2 k ⟨384 + j, by omega⟩) = m ((c : Thread nD τ).loc main_arg3) (ix2 k ⟨1024 + j, by omega⟩) := by
  unfold V
  simp only [hostOps0, hostOps0_1, hostOps0_2, hostOps0_3, hostOps0_4, hostOps0_5, hostOps0_6, List.flatten_cons, List.flatten_nil,
    List.append_nil, List.cons_append, List.nil_append]
  after_reads_simp
  refine (join7_3 _ _ _ _ _ _ _ k j).trans ?_
  change StableHlo.upto _ _ _ (Proc.tc.devRef main_v31) _ = _
  after_reads_simp
  pointwise
theorem w_ca (k : Fin 1024) (j : Fin 512) :
    V m c main_v38 (ix2 k ⟨512 + j, by omega⟩) = m ((c : Thread nD τ).loc main_arg3) (ix2 k ⟨1304 + j, by omega⟩) := by
  unfold V
  simp only [hostOps0, hostOps0_1, hostOps0_2, hostOps0_3, hostOps0_4, hostOps0_5, hostOps0_6, List.flatten_cons, List.flatten_nil,
    List.append_nil, List.cons_append, List.nil_append]
  after_reads_simp
  refine (join7_4 _ _ _ _ _ _ _ k j).trans ?_
  change StableHlo.upto _ _ _ (Proc.tc.devRef main_v34) _ = _
  after_reads_simp
  pointwise
theorem w_cg (k : Fin 1024) (j : Fin 512) :
    V m c main_v38 (ix2 k ⟨1024 + j, by omega⟩) = m ((c : Thread nD τ).loc main_arg3) (ix2 k ⟨1816 + j, by omega⟩) := by
  unfold V
  simp only [hostOps0, hostOps0_1, hostOps0_2, hostOps0_3, hostOps0_4, hostOps0_5, hostOps0_6, List.flatten_cons, List.flatten_nil,
    List.append_nil, List.cons_append, List.nil_append]
  after_reads_simp
  refine (join7_5 _ _ _ _ _ _ _ k j).trans ?_
  change StableHlo.upto _ _ _ (Proc.tc.devRef main_v35) _ = _
  after_reads_simp
  pointwise
theorem w_cb (k : Fin 1024) (j : Fin 512) :
    V m c main_v38 (ix2 k ⟨1536 + j, by omega⟩) = m ((c : Thread nD τ).loc main_arg3) (ix2 k ⟨2328 + j, by omega⟩) := by
  unfold V
  simp only [hostOps0, hostOps0_1, hostOps0_2, hostOps0_3, hostOps0_4, hostOps0_5, hostOps0_6, List.flatten_cons, List.flatten_nil,
    List.append_nil, List.cons_append, List.nil_append]
  after_reads_simp
  refine (join7_6 _ _ _ _ _ _ _ k j).trans ?_
  change StableHlo.upto _ _ _ (Proc.tc.devRef main_v36) _ = _
  after_reads_simp
  pointwise

theorem e2 (j : Fin 1024) :
    V m c main_v49 (ix2 0 j) = m ((c : Thread nD τ).loc main_arg2) (ix1 j) := by
  unfold V
  simp only [hostOps0, hostOps0_1, hostOps0_2, hostOps0_3, hostOps0_4, hostOps0_5, hostOps0_6, List.flatten_cons, List.flatten_nil,
    List.append_nil, List.cons_append, List.nil_append]
  after_reads_simp
  pointwise

theorem e6 (g : Fin 2) (d : Fin 64) :
    V m c main_v9 (ix2 0 ⟨g * 64 + d, by omega⟩) = m ((c : Thread nD τ).loc main_arg5) (ix1 d) := by
  unfold V
  simp only [hostOps0, hostOps0_1, hostOps0_2, hostOps0_3, hostOps0_4, hostOps0_5, hostOps0_6, List.flatten_cons, List.flatten_nil,
    List.append_nil, List.cons_append, List.nil_append]
  after_reads_simp
  pointwise

theorem eye2 (p q : Fin 2) : select (cmpi CmpIPredicate.eq (iotaInDim S2x2 32 0) (iotaInDim S2x2 32 1))
    (broadcastInDim S2x2 ![] bcast_S_S2x2 (constant (F := Ideal) S_ FTy.f32 1065353216#32))
    (broadcastInDim S2x2 ![] bcast_S_S2x2 (constant (F := Ideal) S_ FTy.f32 0#32)) (ix2 p q)
      = (if p.val = q.val then (1 : EReal) else 0 : EReal) := by
  have one : Ideal.ofBits FTy.f32 1065353216#32 = 1 := Ideal.ofBits_one_f32
  fin_cases p <;> fin_cases q <;> simp [Scalar.select, IntOp.cmpi, select, cmpi, iotaInDim, broadcastInDim, constant, FloatOps.ofBits, one, Ideal.ofBits_zero_f32]
theorem e25 (e d : Fin 128) :
    V m c main_v25 (ix2 e d) = (if e.val / 64 = d.val / 64 then (1 : EReal) else 0 : EReal) := by
  unfold V
  simp only [hostOps0, hostOps0_1, hostOps0_2, hostOps0_3, hostOps0_4, hostOps0_5, hostOps0_6, List.flatten_cons, List.flatten_nil,
    List.append_nil, List.cons_append, List.nil_append]
  after_reads_simp
  pointwise
  exact eye2 ⟨e.val / 64, by omega⟩ ⟨d.val / 64, by omega⟩

theorem blk2 (j : Fin 1024) : iblk m c 2 t (ix2 0 j) = m ((c : Thread nD τ).loc main_arg2) (ix1 j) := by
  have h : iblk m c 2 t (ix2 0 j) = V m c main_v49 (ix2 0 j) := by
    blk_simp [iblk, idx t]
    blk_ext [idx t]
  rw [h, e2]
theorem blk3 (k : Fin 1024) (j : Fin 2048) : iblk m c 3 t (ix2 k j) = V m c main_v38 (ix2 k j) := by
  blk_simp [iblk, idx t]
  blk_ext [idx t]
theorem blk6 (g : Fin 2) (d : Fin 64) :
    iblk m c 6 t (ix2 0 ⟨g * 64 + d, by omega⟩) = m ((c : Thread nD τ).loc main_arg5) (ix1 d) := by
  have h (j : Fin 128) : iblk m c 6 t (ix2 0 j) = V m c main_v9 (ix2 0 j) := by
    blk_simp [iblk, idx t]
    blk_ext [idx t]
  rw [h, e6]
theorem blk9 (e d : Fin 128) : iblk m c 9 t (ix2 e d) = (if e.val / 64 = d.val / 64 then (1 : EReal) else 0 : EReal) := by
  have h : iblk m c 9 t (ix2 e d) = V m c main_v25 (ix2 e d) := by
    blk_simp [iblk, idx t]
    blk_ext [idx t]
  rw [h, e25]

end Cert.Proof.Inproj

end
-- ==== Proof.InprojRows.lean ====
module

public import proofs.«01_k».proof.Proof.InprojMath
public import proofs.«01_k».proof.Proof.Gen.InprojIdeal.Value
public import Idealize.ShloMosaic.Lib.Pipeline.ValueKit

@[expose] public section

set_option maxRecDepth 16384

noncomputable section

namespace Cert.Proof.Inproj

open Cert.InprojIdeal Cert.InprojIdeal.Gen Idealize.ShloMosaic Idealize.ShloMosaic.TcCoe

/-- A load through a whole memref held at `X`. -/
theorem ld_of_whole {sig : RefSig} {κ : Kind} {sp : Space} {s : Shape} {e : EltTy} {m : Memref sig κ sp s e} (h : m.IsWhole)
    (X : s.Idx → Elt Ideal e) (r : Rect s) : View.readAt (Elt Ideal) m.view r.toLoadRect (h.unread X) = View.ld X r :=
  funext fun x => congrFun (Memref.IsWhole.read_unread h X) _

theorem ix3_of (n : Nat) (x : Shape.Idx ⟨3, ![1, 256, n]⟩) : ∃ (b : Fin 256) (d : Fin n), x = ix3 0 b d :=
  ⟨x 1, x 2, by funext a; fin_cases a; exacts [Subsingleton.elim (α := Fin 1) _ _, rfl, rfl]⟩

/-! The four quarters of a block run the same chain: the later ones', in the first one's terms. -/

section
variable (l : Vec Ideal S1x256x1024 .f32) (n : Vec Ideal S1x1024 .f32) (s t : Vec Ideal S1x1x1024 .f32)

theorem kv_1 (w : Vec Ideal S1024x512 .bf16) : k0_pay87 (k0_pay84 l n s t) w = k0_pay7 (k0_pay4 l n s t) w := rfl
theorem kv_2 (w : Vec Ideal S1024x512 .bf16) : k0_pay164 l n s t w = k0_pay7 (k0_pay4 l n s t) w := rfl
theorem kv_3 (w : Vec Ideal S1024x512 .bf16) :
    k0_pay249 (k0_pay244 l) (k0_pay245 l) (FloatOps.ofBits (F := Ideal) FTy.f32 0x358637BD#32) n s t w
      = k0_pay7 (k0_pay4 l n s t) w := rfl

theorem cv_1 (w : Vec Ideal S1024x1536 .bf16) : k0_pay88 (k0_pay84 l n s t) w = k0_pay8 (k0_pay4 l n s t) w := rfl
theorem cv_2 (w : Vec Ideal S1024x1536 .bf16) : k0_pay166 (k0_pay161 l n s t) (k0_pay165 w) = k0_pay8 (k0_pay4 l n s t) w := rfl
theorem cv_3 (w : Vec Ideal S1024x1536 .bf16) :
    k0_pay250 (k0_pay244 l) (k0_pay245 l) (FloatOps.ofBits (F := Ideal) FTy.f32 0x358637BD#32) n s t w
      = k0_pay8 (k0_pay4 l n s t) w := rfl

theorem vg_1 (w : Vec Ideal S288x1024 .bf16) : k0_pay86 l n s t w = k0_pay6 (k0_pay4 l n s t) w := rfl
theorem vg_2 (w : Vec Ideal S288x1024 .bf16) : k0_pay163 l n s t w = k0_pay6 (k0_pay4 l n s t) w := rfl
theorem vg_3 (w : Vec Ideal S288x1024 .bf16) :
    k0_pay248 (k0_pay244 l) (k0_pay245 l) (FloatOps.ofBits (F := Ideal) FTy.f32 0x358637BD#32) n s t w
      = k0_pay6 (k0_pay4 l n s t) w := rfl

end

section
variable (x0 : Vec Ideal S1x1024x1024 .f32) (x1 : Vec Ideal S1x6x1024 .f32) (x2 : Vec Ideal S1x1024 .f32)

/-- Row `R` of the block after the norm and the modulation. -/
def rowOf (R : Fin 1024) : Fin 1024 → EReal :=
  Ffn.normed (fun j => x0 (ix3 0 R j)) (fun j => x2 (ix2 0 j)) (fun j => x1 (ix3 0 1 j)) fun j => x1 (ix3 0 0 j)

theorem row_of (y : Vec Ideal S1x256x1024 .f32) (b : Fin 256) (k : Fin 1024) :
    k0_pay4 y (View.ld x2 (Rect.unit ![0, 0] ![1, 1024] inb_S1x1024_S1x1024_0_0))
        (View.ld x1 (Rect.unit ![0, 1, 0] ![1, 1, 1024] inb_S1x6x1024_S1x1x1024_0_1_0))
        (View.ld x1 (Rect.unit ![0, 0, 0] ![1, 1, 1024] inb_S1x6x1024_S1x1x1024_0_0_0)) (ix2 b k)
      = Ffn.normed (fun j => y (ix3 0 b j)) (fun j => x2 (ix2 0 j)) (fun j => x1 (ix3 0 1 j)) (fun j => x1 (ix3 0 0 j)) k := by
  pointwise [k0_pay4]
  rfl

theorem quarter (p : Nat) (inb) (b : Fin 256) (R : Fin 1024) (hR : R.val = p + b.val) (k : Fin 1024) :
    k0_pay4 (View.ld x0 (Rect.unit ![0, p, 0] ![1, 256, 1024] inb))
        (View.ld x2 (Rect.unit ![0, 0] ![1, 1024] inb_S1x1024_S1x1024_0_0))
        (View.ld x1 (Rect.unit ![0, 1, 0] ![1, 1, 1024] inb_S1x6x1024_S1x1x1024_0_1_0))
        (View.ld x1 (Rect.unit ![0, 0, 0] ![1, 1, 1024] inb_S1x6x1024_S1x1x1024_0_0_0)) (ix2 b k)
      = rowOf x0 x1 x2 R k := by
  rw [row_of]
  unfold rowOf
  congr 1
  funext j
  exact View.ld_unit_apply_of _ _ _ _ _ _ fun a => by fin_cases a <;> simp [ix3, hR]

end

end Cert.Proof.Inproj

end
-- ==== Proof.InprojKv.lean ====
module

public import proofs.«01_k».proof.Proof.InprojRows

@[expose] public section

set_option maxRecDepth 16384
set_option maxHeartbeats 800000

noncomputable section

namespace Cert.Proof.Inproj

open Cert.InprojIdeal Cert.InprojIdeal.Gen Idealize.ShloMosaic Idealize.ShloMosaic.TcCoe

/-- Entry `d` of a row whose two heads are normalised through the matrix `bd` of their sums. -/
def headsOf (v : Fin 128 → EReal) (bd : Fin 128 → Fin 128 → EReal) (g : EReal) (d : Fin 128) : EReal :=
  v d * Ideal.rsqrt ((∑ e : Fin 128, v e * v e * bd e d) * Ideal.ofBits FTy.f32 0x3C800000#32
    + Ideal.ofBits FTy.f32 0x358637BD#32) * g

section
variable (x0 : Vec Ideal S1x1024x1024 .f32) (x1 : Vec Ideal S1x6x1024 .f32) (x2 : Vec Ideal S1x1024 .f32)
  (x3 : Vec Ideal S1024x2048 .bf16) (x6 : Vec Ideal S1x128 .f32) (x9 : Vec Ideal S128x128 .bf16)

/-- Row `R` of the block against column `j` of the packed weights. -/
def kvOf (R : Fin 1024) (j : Fin 2048) : EReal := col (rowOf x0 x1 x2 R) fun k => x3 (ix2 k j)

/-- The first quarter's projection, read from the rows at offset `p`. -/
abbrev kvP (p : Nat) (inb : ∀ a, (![0, p, 0] : Fin 3 → ℕ) a + (![1, 256, 1024] : Fin 3 → ℕ) a ≤ S1x1024x1024.size a) : FVec Ideal S256x512 .f32 :=
  k0_pay7 (k0_pay4 (View.ld x0 (Rect.unit ![0, p, 0] ![1, 256, 1024] inb))
      (View.ld x2 (Rect.unit ![0, 0] ![1, 1024] inb_S1x1024_S1x1024_0_0))
      (View.ld x1 (Rect.unit ![0, 1, 0] ![1, 1, 1024] inb_S1x6x1024_S1x1x1024_0_1_0))
      (View.ld x1 (Rect.unit ![0, 0, 0] ![1, 1, 1024] inb_S1x6x1024_S1x1x1024_0_0_0)))
    (View.ld x3 (Rect.unit ![0, 0] ![1024, 512] inb_S1024x2048_S1024x512_0_0))

variable (p : Nat)
  (inb : ∀ a, (![0, p, 0] : Fin 3 → ℕ) a + (![1, 256, 1024] : Fin 3 → ℕ) a ≤ S1x1024x1024.size a) (b : Fin 256) (R : Fin 1024) (hR : R.val = p + b.val)

include hR in
theorem kv_apply (j : Fin 512) : kvP x0 x1 x2 x3 p inb (ix2 b j)
    = kvOf x0 x1 x2 x3 R ⟨j, by omega⟩ := by
  unfold kvP
  pointwise [k0_pay7]
  exact Finset.sum_congr rfl fun k _ => congrArg (· * _) (quarter x0 x1 x2 p inb b R hR k)

include hR in
theorem kc_apply (j : Fin 128) : k0_pay73 (kvP x0 x1 x2 x3 p inb) (ix3 0 b j)
    = kvOf x0 x1 x2 x3 R ⟨j, by omega⟩ := by
  rw [← kv_apply x0 x1 x2 x3 p inb b R hR ⟨j, by omega⟩]
  pointwise [k0_pay73]

include hR in
theorem vc_apply (j : Fin 128) : k0_pay74 (kvP x0 x1 x2 x3 p inb) (ix3 0 b j)
    = kvOf x0 x1 x2 x3 R ⟨128 + j, by omega⟩ := by
  rw [← kv_apply x0 x1 x2 x3 p inb b R hR ⟨128 + j, by omega⟩]
  pointwise [k0_pay74]

include hR in
theorem ks_apply (j : Fin 128) :
    k0_pay75 (kvP x0 x1 x2 x3 p inb) (View.ld x6 (Rect.unit ![0, 0] ![1, 128] inb_S1x128_S1x128_0_0))
        (View.ld x9 (Rect.unit ![0, 0] ![128, 128] inb_S128x128_S128x128_0_0)) (ix3 0 b j)
      = headsOf (fun e => kvOf x0 x1 x2 x3 R ⟨256 + e, by omega⟩)
          (fun e d => x9 (ix2 e d)) (x6 (ix2 0 j)) j := by
  obtain ⟨kv, hkv⟩ : ∃ kv, kv = kvP x0 x1 x2 x3 p inb := ⟨_, rfl⟩
  rw [← hkv]
  pointwise [k0_pay75]
  simp only [hkv, kv_apply x0 x1 x2 x3 p inb b R hR]
  rfl

include hR in
theorem kw_apply (j : Fin 128) :
    k0_pay78 (k0_pay76 (View.ld x6 (Rect.unit ![0, 0] ![1, 128] inb_S1x128_S1x128_0_0)))
        (k0_pay77 (kvP x0 x1 x2 x3 p inb) (View.ld x9 (Rect.unit ![0, 0] ![128, 128] inb_S128x128_S128x128_0_0))) (ix3 0 b j)
      = headsOf (fun e => kvOf x0 x1 x2 x3 R ⟨384 + e, by omega⟩)
          (fun e d => x9 (ix2 e d)) (x6 (ix2 0 j)) j := by
  obtain ⟨kv, hkv⟩ : ∃ kv, kv = kvP x0 x1 x2 x3 p inb := ⟨_, rfl⟩
  rw [← hkv]
  pointwise [k0_pay76, k0_pay77, k0_pay78]
  simp only [hkv, kv_apply x0 x1 x2 x3 p inb b R hR]
  rfl

end

variable (m : (ℓ : Loc nD τ sig) → Buf (Elt Ideal) ℓ) (c : Dev nD) (t : Fin cfg0.N)

/-- The projections of point `t`'s block. -/
abbrev blkKv (R : Fin 1024) (j : Fin 2048) : EReal := kvOf (iblk m c 0 t) (iblk m c 1 t) (iblk m c 2 t) (iblk m c 3 t) R j

theorem out_kc (R : Fin 1024) (j : Fin 128) : (outsAt0 m c t.val t.isLt).2.1 (ix3 0 R j)
    = blkKv m c t R ⟨j, by omega⟩ := by
  by_cases hc : t.val % 8 = 0
  · rw [outsAt0_A m c t hc]
    dsimp only
    unfold out0_A_11 kernelRun0_A
    dsimp only
    rw [View.read_writes_junk_apply_eq_canon]
    canon_tiles x h
    all_goals
      obtain ⟨b, d, rfl⟩ := ix3_of _ x
      obtain rfl : j = d := Fin.ext h2
      simp only [kernelRun0_A.sl.r_3, kernelRun0_A.sl.r, kernelRun0_A.sl.r_33, kernelRun0_A.sl.r_30, kernelRun0_A.sl.r_53,
        kernelRun0_A.sl.r_49, kernelRun0_A.sl.r_79, kernelRun0_A.sl.r_75, kernelRun0_A.sl.r_76,
        kernelRun0_A.sl.cst_531, kernelRun0_A.sl.r_45, kernelRun0_A.sl.r_68, kernelRun0_A.sl.r_69,
        kernelRun0_A.sl.r_70, kernelRun0_A.sl.r_71, kernelRun0_A.sl.r_97, kernelRun0_A.sl.r_98, kernelRun0_A.sl.r_99,
        kernelRun0_A.sl.r_46, kernelRun0_A.sl.r_23, kernelRun0_A.sl.r_24, ld_of_whole, kv_1, kv_2, kv_3]
      refine kc_apply _ _ _ _ _ _ b R ?_ j
      dsimp [ix3] at h1
      omega
  · rw [outsAt0_B m c t hc]
    dsimp only
    unfold out0_B_11 kernelRun0_B
    dsimp only
    rw [View.read_writes_junk_apply_eq_canon]
    canon_tiles x h
    all_goals
      obtain ⟨b, d, rfl⟩ := ix3_of _ x
      obtain rfl : j = d := Fin.ext h2
      simp only [kernelRun0_B.sl.r_5, kernelRun0_B.sl.r_2, kernelRun0_B.sl.r_35, kernelRun0_B.sl.r_32, kernelRun0_B.sl.r_55,
        kernelRun0_B.sl.r_51, kernelRun0_B.sl.r_81, kernelRun0_B.sl.r_77, kernelRun0_B.sl.r_78,
        kernelRun0_B.sl.cst_531, kernelRun0_B.sl.r_47, kernelRun0_B.sl.r_70, kernelRun0_B.sl.r_71,
        kernelRun0_B.sl.r_72, kernelRun0_B.sl.r_73, kernelRun0_B.sl.r_99, kernelRun0_B.sl.r_100,
        kernelRun0_B.sl.r_101, kernelRun0_B.sl.r_48, kernelRun0_B.sl.r_25, kernelRun0_B.sl.r_26, ld_of_whole, kv_1,
        kv_2, kv_3]
      refine kc_apply _ _ _ _ _ _ b R ?_ j
      dsimp [ix3] at h1
      omega

theorem out_vc (R : Fin 1024) (j : Fin 128) : (outsAt0 m c t.val t.isLt).2.2.1 (ix3 0 R j)
    = blkKv m c t R ⟨128 + j, by omega⟩ := by
  by_cases hc : t.val % 8 = 0
  · rw [outsAt0_A m c t hc]
    dsimp only
    unfold out0_A_12 kernelRun0_A
    dsimp only
    rw [View.read_writes_junk_apply_eq_canon]
    canon_tiles x h
    all_goals
      obtain ⟨b, d, rfl⟩ := ix3_of _ x
      obtain rfl : j = d := Fin.ext h2
      simp only [kernelRun0_A.sl.r_3, kernelRun0_A.sl.r, kernelRun0_A.sl.r_33, kernelRun0_A.sl.r_30, kernelRun0_A.sl.r_53,
        kernelRun0_A.sl.r_49, kernelRun0_A.sl.r_79, kernelRun0_A.sl.r_75, kernelRun0_A.sl.r_76,
        kernelRun0_A.sl.cst_531, kernelRun0_A.sl.r_45, kernelRun0_A.sl.r_68, kernelRun0_A.sl.r_69,
        kernelRun0_A.sl.r_70, kernelRun0_A.sl.r_71, kernelRun0_A.sl.r_97, kernelRun0_A.sl.r_98, kernelRun0_A.sl.r_99,
        kernelRun0_A.sl.r_46, kernelRun0_A.sl.r_23, kernelRun0_A.sl.r_24, ld_of_whole, kv_1, kv_2, kv_3]
      refine vc_apply _ _ _ _ _ _ b R ?_ j
      dsimp [ix3] at h1
      omega
  · rw [outsAt0_B m c t hc]
    dsimp only
    unfold out0_B_12 kernelRun0_B
    dsimp only
    rw [View.read_writes_junk_apply_eq_canon]
    canon_tiles x h
    all_goals
      obtain ⟨b, d, rfl⟩ := ix3_of _ x
      obtain rfl : j = d := Fin.ext h2
      simp only [kernelRun0_B.sl.r_5, kernelRun0_B.sl.r_2, kernelRun0_B.sl.r_35, kernelRun0_B.sl.r_32, kernelRun0_B.sl.r_55,
        kernelRun0_B.sl.r_51, kernelRun0_B.sl.r_81, kernelRun0_B.sl.r_77, kernelRun0_B.sl.r_78,
        kernelRun0_B.sl.cst_531, kernelRun0_B.sl.r_47, kernelRun0_B.sl.r_70, kernelRun0_B.sl.r_71,
        kernelRun0_B.sl.r_72, kernelRun0_B.sl.r_73, kernelRun0_B.sl.r_99, kernelRun0_B.sl.r_100,
        kernelRun0_B.sl.r_101, kernelRun0_B.sl.r_48, kernelRun0_B.sl.r_25, kernelRun0_B.sl.r_26, ld_of_whole, kv_1,
        kv_2, kv_3]
      refine vc_apply _ _ _ _ _ _ b R ?_ j
      dsimp [ix3] at h1
      omega

theorem out_ks (R : Fin 1024) (j : Fin 128) : (outsAt0 m c t.val t.isLt).2.2.2.1 (ix3 0 R j)
    = headsOf (fun e => blkKv m c t R ⟨256 + e, by omega⟩) (fun e d => iblk m c 9 t (ix2 e d)) (iblk m c 6 t (ix2 0 j)) j := by
  by_cases hc : t.val % 8 = 0
  · rw [outsAt0_A m c t hc]
    dsimp only
    unfold out0_A_13 kernelRun0_A
    dsimp only
    rw [View.read_writes_junk_apply_eq_canon]
    canon_tiles x h
    all_goals
      obtain ⟨b, d, rfl⟩ := ix3_of _ x
      obtain rfl : j = d := Fin.ext h2
      simp only [kernelRun0_A.sl.r_3, kernelRun0_A.sl.r, kernelRun0_A.sl.r_33, kernelRun0_A.sl.r_30, kernelRun0_A.sl.r_53,
        kernelRun0_A.sl.r_49, kernelRun0_A.sl.r_79, kernelRun0_A.sl.r_75, kernelRun0_A.sl.r_76,
        kernelRun0_A.sl.cst_531, kernelRun0_A.sl.r_45, kernelRun0_A.sl.r_68, kernelRun0_A.sl.r_69,
        kernelRun0_A.sl.r_70, kernelRun0_A.sl.r_71, kernelRun0_A.sl.r_97, kernelRun0_A.sl.r_98, kernelRun0_A.sl.r_99,
        kernelRun0_A.sl.r_46, kernelRun0_A.sl.r_23, kernelRun0_A.sl.r_24, ld_of_whole, kv_1, kv_2, kv_3]
      refine ks_apply _ _ _ _ _ _ _ _ b R ?_ j
      dsimp [ix3] at h1
      omega
  · rw [outsAt0_B m c t hc]
    dsimp only
    unfold out0_B_13 kernelRun0_B
    dsimp only
    rw [View.read_writes_junk_apply_eq_canon]
    canon_tiles x h
    all_goals
      obtain ⟨b, d, rfl⟩ := ix3_of _ x
      obtain rfl : j = d := Fin.ext h2
      simp only [kernelRun0_B.sl.r_5, kernelRun0_B.sl.r_2, kernelRun0_B.sl.r_35, kernelRun0_B.sl.r_32, kernelRun0_B.sl.r_55,
        kernelRun0_B.sl.r_51, kernelRun0_B.sl.r_81, kernelRun0_B.sl.r_77, kernelRun0_B.sl.r_78,
        kernelRun0_B.sl.cst_531, kernelRun0_B.sl.r_47, kernelRun0_B.sl.r_70, kernelRun0_B.sl.r_71,
        kernelRun0_B.sl.r_72, kernelRun0_B.sl.r_73, kernelRun0_B.sl.r_99, kernelRun0_B.sl.r_100,
        kernelRun0_B.sl.r_101, kernelRun0_B.sl.r_48, kernelRun0_B.sl.r_25, kernelRun0_B.sl.r_26, ld_of_whole, kv_1,
        kv_2, kv_3]
      refine ks_apply _ _ _ _ _ _ _ _ b R ?_ j
      dsimp [ix3] at h1
      omega

theorem out_kw (R : Fin 1024) (j : Fin 128) : (outsAt0 m c t.val t.isLt).2.2.2.2.2.1 (ix3 0 R j)
    = headsOf (fun e => blkKv m c t R ⟨384 + e, by omega⟩) (fun e d => iblk m c 9 t (ix2 e d)) (iblk m c 6 t (ix2 0 j)) j := by
  by_cases hc : t.val % 8 = 0
  · rw [outsAt0_A m c t hc]
    dsimp only
    unfold out0_A_15 kernelRun0_A
    dsimp only
    rw [View.read_writes_junk_apply_eq_canon]
    canon_tiles x h
    all_goals
      obtain ⟨b, d, rfl⟩ := ix3_of _ x
      obtain rfl : j = d := Fin.ext h2
      simp only [kernelRun0_A.sl.r_3, kernelRun0_A.sl.r, kernelRun0_A.sl.r_33, kernelRun0_A.sl.r_30, kernelRun0_A.sl.r_53,
        kernelRun0_A.sl.r_49, kernelRun0_A.sl.r_79, kernelRun0_A.sl.r_75, kernelRun0_A.sl.r_76,
        kernelRun0_A.sl.cst_531, kernelRun0_A.sl.r_45, kernelRun0_A.sl.r_68, kernelRun0_A.sl.r_69,
        kernelRun0_A.sl.r_70, kernelRun0_A.sl.r_71, kernelRun0_A.sl.r_97, kernelRun0_A.sl.r_98, kernelRun0_A.sl.r_99,
        kernelRun0_A.sl.r_46, kernelRun0_A.sl.r_23, kernelRun0_A.sl.r_24, ld_of_whole, kv_1, kv_2, kv_3]
      refine kw_apply _ _ _ _ _ _ _ _ b R ?_ j
      dsimp [ix3] at h1
      omega
  · rw [outsAt0_B m c t hc]
    dsimp only
    unfold out0_B_15 kernelRun0_B
    dsimp only
    rw [View.read_writes_junk_apply_eq_canon]
    canon_tiles x h
    all_goals
      obtain ⟨b, d, rfl⟩ := ix3_of _ x
      obtain rfl : j = d := Fin.ext h2
      simp only [kernelRun0_B.sl.r_5, kernelRun0_B.sl.r_2, kernelRun0_B.sl.r_35, kernelRun0_B.sl.r_32, kernelRun0_B.sl.r_55,
        kernelRun0_B.sl.r_51, kernelRun0_B.sl.r_81, kernelRun0_B.sl.r_77, kernelRun0_B.sl.r_78,
        kernelRun0_B.sl.cst_531, kernelRun0_B.sl.r_47, kernelRun0_B.sl.r_70, kernelRun0_B.sl.r_71,
        kernelRun0_B.sl.r_72, kernelRun0_B.sl.r_73, kernelRun0_B.sl.r_99, kernelRun0_B.sl.r_100,
        kernelRun0_B.sl.r_101, kernelRun0_B.sl.r_48, kernelRun0_B.sl.r_25, kernelRun0_B.sl.r_26, ld_of_whole, kv_1,
        kv_2, kv_3]
      refine kw_apply _ _ _ _ _ _ _ _ b R ?_ j
      dsimp [ix3] at h1
      omega

end Cert.Proof.Inproj

end
-- ==== Proof.InprojConv.lean ====
module

public import proofs.«01_k».proof.Proof.InprojKv

@[expose] public section

set_option maxRecDepth 16384
set_option maxHeartbeats 800000

noncomputable section

namespace Cert.Proof.Inproj

open Cert.InprojIdeal Cert.InprojIdeal.Gen Idealize.ShloMosaic Idealize.ShloMosaic.TcCoe

/-- A column of products with the two before it in front: entry `n + 2` is `z n`. -/
def after (p2 p1 : EReal) (z : Fin 1024 → EReal) (n : ℕ) : EReal :=
  if n = 0 then p2 else if n = 1 then p1 else if h : n - 2 < 1024 then z ⟨n - 2, h⟩ else 0

theorem after_of (p2 p1 : EReal) (z : Fin 1024 → EReal) (n : ℕ) (R : Fin 1024) (h : n = R.val + 2) : after p2 p1 z n = z R := by
  subst h
  unfold after
  rw [if_neg (by omega), if_neg (by omega), dif_pos (by omega)]
  rfl

theorem after_zero (p2 p1 : EReal) (z : Fin 1024 → EReal) : after p2 p1 z 0 = p2 := rfl
theorem after_one (p2 p1 : EReal) (z : Fin 1024 → EReal) : after p2 p1 z (0 + 1) = p1 := rfl

section
variable (v w : Vec Ideal S1x512 .f32) (cv : FVec Ideal S256x1536 .f32) (w0 w1 w2 : Vec Ideal S1x512 .f32)

/-- The first quarter's convolution, after the rows `v`, `w`. -/
abbrev convP : FVec Ideal S1x256x512 .bf16 := k0_pay81 (k0_pay80 v w cv w0 w1 w2)

theorem convP_1 : k0_pay158 v w cv w0 w1 w2 = convP v w cv w0 w1 w2 := rfl
theorem convP_2 (h) : k0_pay241 v w cv (k0_pay239 cv) (iota .tc S256x512 32 [0] h) k0_pay240 1#32 w0 w1 w2
    = convP v w cv w0 w1 w2 := rfl
theorem convP_3 (h) : k0_pay1 cv (k0_pay325 v w (k0_pay321 cv) (iota .tc S256x512 32 [0] h) (k0_pay322 w cv) k0_pay323 k0_pay324 w0 w1)
    (k0_pay326 (k0_pay321 cv) w2) = convP v w cv w0 w1 w2 := rfl
theorem last2_1 : k0_pay159 cv = k0_pay82 (k0_pay79 cv) := rfl
theorem last1_1 : k0_pay160 cv = k0_pay83 (k0_pay79 cv) := rfl
theorem last2_2 : k0_pay242 (k0_pay239 cv) = k0_pay82 (k0_pay79 cv) := rfl
theorem last1_2 : k0_pay243 (k0_pay239 cv) = k0_pay83 (k0_pay79 cv) := rfl
end

section
variable (x0 : Vec Ideal S1x1024x1024 .f32) (x1 : Vec Ideal S1x6x1024 .f32) (x2 : Vec Ideal S1x1024 .f32)
  (x3 : Vec Ideal S1024x2048 .bf16) (x7 : Vec Ideal S3x512 .f32)

/-- Row `R` of the block, column `j` of the products the convolution runs over. -/
def zOf (j : Fin 512) (R : Fin 1024) : EReal :=
  kvOf x0 x1 x2 x3 R ⟨512 + j, by omega⟩ * kvOf x0 x1 x2 x3 R ⟨1536 + j, by omega⟩

abbrev cvP (p : Nat) (inb : ∀ a, (![0, p, 0] : Fin 3 → ℕ) a + (![1, 256, 1024] : Fin 3 → ℕ) a ≤ S1x1024x1024.size a) : FVec Ideal S256x1536 .f32 :=
  k0_pay8 (k0_pay4 (View.ld x0 (Rect.unit ![0, p, 0] ![1, 256, 1024] inb))
      (View.ld x2 (Rect.unit ![0, 0] ![1, 1024] inb_S1x1024_S1x1024_0_0))
      (View.ld x1 (Rect.unit ![0, 1, 0] ![1, 1, 1024] inb_S1x6x1024_S1x1x1024_0_1_0))
      (View.ld x1 (Rect.unit ![0, 0, 0] ![1, 1, 1024] inb_S1x6x1024_S1x1x1024_0_0_0)))
    (View.ld x3 (Rect.unit ![0, 512] ![1024, 1536] inb_S1024x2048_S1024x1536_0_512))

variable (p : Nat)
  (inb : ∀ a, (![0, p, 0] : Fin 3 → ℕ) a + (![1, 256, 1024] : Fin 3 → ℕ) a ≤ S1x1024x1024.size a)

theorem cv_apply (b : Fin 256) (R : Fin 1024) (hR : R.val = p + b.val) (j : Fin 1536) :
    cvP x0 x1 x2 x3 p inb (ix2 b j) = kvOf x0 x1 x2 x3 R ⟨512 + j, by omega⟩ := by
  unfold cvP
  pointwise [k0_pay8]
  exact Finset.sum_congr rfl fun k _ => congrArg (· * _) (quarter x0 x1 x2 p inb b R hR k)

theorem last8_apply (hp : p = 768) (r : Fin 8) (j : Fin 512) :
    k0_pay2 (k0_pay321 (cvP x0 x1 x2 x3 p inb)) (ix2 r j) = zOf x0 x1 x2 x3 j ⟨1016 + r, by omega⟩ := by
  obtain ⟨cv, hcv⟩ : ∃ cv, cv = cvP x0 x1 x2 x3 p inb := ⟨_, rfl⟩
  rw [← hcv]
  pointwise [k0_pay2, k0_pay321]
  rw [hcv, cv_apply x0 x1 x2 x3 p inb _ ⟨1016 + r, by omega⟩ (by dsimp only; omega),
    cv_apply x0 x1 x2 x3 p inb _ ⟨1016 + r, by omega⟩ (by dsimp only; omega)]
  unfold zOf
  congr 3
  dsimp only
  omega

/-- The products' rows before a quarter, for the quarter that follows it. -/
theorem last2_apply (p2 p1 : EReal) (j : Fin 512) (q : ℕ) (hq : q = p + 256) (hp : p ≤ 768) :
    k0_pay82 (k0_pay79 (cvP x0 x1 x2 x3 p inb)) (ix2 0 j) = after p2 p1 (zOf x0 x1 x2 x3 j) q := by
  obtain ⟨cv, hcv⟩ : ∃ cv, cv = cvP x0 x1 x2 x3 p inb := ⟨_, rfl⟩
  rw [← hcv, after_of _ _ _ _ ⟨p + 254, by omega⟩ (by dsimp only; omega)]
  pointwise [k0_pay82, k0_pay79]
  rw [hcv, cv_apply x0 x1 x2 x3 p inb _ ⟨p + 254, by omega⟩ rfl, cv_apply x0 x1 x2 x3 p inb _ ⟨p + 254, by omega⟩ rfl]
  unfold zOf
  congr 3
  dsimp only
  omega

theorem last1_apply (p2 p1 : EReal) (j : Fin 512) (q : ℕ) (hq : q = p + 256) (hp : p ≤ 768) :
    k0_pay83 (k0_pay79 (cvP x0 x1 x2 x3 p inb)) (ix2 0 j) = after p2 p1 (zOf x0 x1 x2 x3 j) (q + 1) := by
  obtain ⟨cv, hcv⟩ : ∃ cv, cv = cvP x0 x1 x2 x3 p inb := ⟨_, rfl⟩
  rw [← hcv, after_of _ _ _ _ ⟨p + 255, by omega⟩ (by dsimp only; omega)]
  pointwise [k0_pay83, k0_pay79]
  rw [hcv, cv_apply x0 x1 x2 x3 p inb _ ⟨p + 255, by omega⟩ rfl, cv_apply x0 x1 x2 x3 p inb _ ⟨p + 255, by omega⟩ rfl]
  unfold zOf
  congr 3
  dsimp only
  omega

theorem eq_word (b : Fin 256) (n : ℕ) (hn : n < 256) :
    IntOp.cmpi CmpIPredicate.eq (BitVec.ofNat 32 (b : ℕ)) (BitVec.ofNat 32 n) = if (b : ℕ) = n then 1 else 0 := by
  have := b.isLt
  by_cases h : (b : ℕ) = n
  · simp [IntOp.cmpi, h]
  · have h' : ¬ BitVec.ofNat 32 (b : ℕ) = BitVec.ofNat 32 n := fun e => h (by
      have e := congrArg BitVec.toNat e
      rw [BitVec.toNat_ofNat, BitVec.toNat_ofNat] at e
      omega)
    rw [if_neg h]
    exact congrArg BitVec.ofBool (beq_eq_false_iff_ne.mpr h')

theorem conv_apply (v w : Vec Ideal S1x512 .f32) (b : Fin 256) (R : Fin 1024) (hR : R.val = p + b.val) (j : Fin 512) (p2 p1 : EReal)
    (hv : v (ix2 0 j) = after p2 p1 (zOf x0 x1 x2 x3 j) p) (hw : w (ix2 0 j) = after p2 p1 (zOf x0 x1 x2 x3 j) (p + 1)) :
    convP v w (cvP x0 x1 x2 x3 p inb)
        (View.ld x7 (Rect.unit ![0, 0] ![1, 512] inb_S3x512_S1x512_0_0))
        (View.ld x7 (Rect.unit ![1, 0] ![1, 512] inb_S3x512_S1x512_1_0))
        (View.ld x7 (Rect.unit ![2, 0] ![1, 512] inb_S3x512_S1x512_2_0)) (ix3 0 b j)
      = kvOf x0 x1 x2 x3 R ⟨1024 + j, by omega⟩ * taps (x7 (ix2 0 j)) (x7 (ix2 1 j)) (x7 (ix2 2 j))
          (after p2 p1 (zOf x0 x1 x2 x3 j) R) (after p2 p1 (zOf x0 x1 x2 x3 j) (R + 1)) (zOf x0 x1 x2 x3 j R) := by
  obtain ⟨cv, hcv⟩ : ∃ cv, cv = cvP x0 x1 x2 x3 p inb := ⟨_, rfl⟩
  have hb := b.isLt
  have hz : ∀ (k : ℕ) (hk : k ≤ (b : ℕ)) (e : (b + 256 - k) % 256 < 256) (e1 : (j : ℕ) < 1536) (e2 : 1024 + (j : ℕ) < 1536) (n : ℕ)
      (hn : n + k = R + 2), cv (ix2 ⟨(b + 256 - k) % 256, e⟩ ⟨j, e1⟩) * cv (ix2 ⟨(b + 256 - k) % 256, e⟩ ⟨1024 + j, e2⟩)
        = after p2 p1 (zOf x0 x1 x2 x3 j) n := fun k hk e e1 e2 n hn => by
    have hm : (b + 256 - k) % 256 = b - k := by omega
    rw [after_of _ _ _ n ⟨R - k, by omega⟩ (by dsimp only; omega), hcv,
      cv_apply x0 x1 x2 x3 p inb _ ⟨R - k, by omega⟩ (by dsimp only; omega),
      cv_apply x0 x1 x2 x3 p inb _ ⟨R - k, by omega⟩ (by dsimp only; omega)]
    unfold zOf
    congr 3
    dsimp only
    omega
  have h0 : ∀ (e1 : (j : ℕ) < 1536) (e2 : 1024 + (j : ℕ) < 1536), cv (ix2 b ⟨j, e1⟩) * cv (ix2 b ⟨1024 + j, e2⟩) = zOf x0 x1 x2 x3 j R := fun e1 e2 => by
    rw [hcv, cv_apply x0 x1 x2 x3 p inb b R hR, cv_apply x0 x1 x2 x3 p inb b R hR]
    unfold zOf
    congr 3
    dsimp only
    omega
  have hg : ∀ e1 : 512 + (j : ℕ) < 1536, cv (ix2 b ⟨512 + j, e1⟩) = kvOf x0 x1 x2 x3 R ⟨1024 + j, by omega⟩ := fun e1 => by
    rw [hcv, cv_apply x0 x1 x2 x3 p inb b R hR]
    exact congrArg _ (Fin.ext (by dsimp only; omega))
  rw [← hcv]
  pointwise [k0_pay81, k0_pay80, k0_pay79]
  rw [eq_word b 0 (by decide), eq_word b 1 (by decide), hg, h0, hv, hw]
  unfold taps
  rcases Nat.lt_or_ge (b : ℕ) 1 with hb0 | hb1
  · have e0 : (b : ℕ) = 0 := by omega
    simp only [e0, if_pos, Scalar.select, hR, Nat.add_zero]
  · rcases Nat.lt_or_ge (b : ℕ) 2 with hb0 | hb2
    · have e0 : (b : ℕ) = 1 := by omega
      rw [hz 1 hb1 _ _ _ (R + 1) (by omega), if_neg (by omega), if_pos e0, show p + 1 = (R : ℕ) by omega]
      rfl
    · rw [hz 1 hb1 _ _ _ (R + 1) (by omega), hz 2 hb2 _ _ _ R (by omega), if_neg (by omega), if_neg (by omega)]
      rfl

end

variable (m : (ℓ : Loc nD τ sig) → Buf (Elt Ideal) ℓ) (c : Dev nD) (t : Fin cfg0.N)

/-- The products of point `t`'s block. -/
abbrev blkZ (j : Fin 512) (R : Fin 1024) : EReal := zOf (iblk m c 0 t) (iblk m c 1 t) (iblk m c 2 t) (iblk m c 3 t) j R

/-- The rows a point leaves for the next: its last eight. -/
theorem out_carry (r : Fin 8) (j : Fin 512) : (outsAt0 m c t.val t.isLt).2.2.2.2.2.2.2.2.2 (ix2 r j)
    = blkZ m c t j ⟨1016 + r, by omega⟩ := by
  by_cases hc : t.val % 8 = 0
  · rw [outsAt0_A m c t hc]
    dsimp only
    unfold sout0_A_0 kernelRun0_A
    dsimp only
    rw [View.read_writes_junk_apply_eq_canon, View.canon_cons_unit_lit _ _ _ (by decide)]
    simp only [kernelRun0_A.sl.r_4, kernelRun0_A.sl.r_25, kernelRun0_A.sl.r_26, kernelRun0_A.sl.r_28, kernelRun0_A.sl.r_29,
        kernelRun0_A.sl.r_30, kernelRun0_A.sl.r_34, kernelRun0_A.sl.r_47, kernelRun0_A.sl.r_48, kernelRun0_A.sl.r_49,
        kernelRun0_A.sl.r_50, kernelRun0_A.sl.r_54, kernelRun0_A.sl.r_55, kernelRun0_A.sl.r_72, kernelRun0_A.sl.r_73,
        kernelRun0_A.sl.r_74, kernelRun0_A.sl.r_75, kernelRun0_A.sl.r_76, kernelRun0_A.sl.cst_531, kernelRun0_A.sl.r_80,
        kernelRun0_A.sl.r_100, kernelRun0_A.sl.r_101, kernelRun0_A.sl.r_102, kernelRun0_A.sl.r_103,
        kernelRun0_A.sl.v961, kernelRun0_A.sl.r, ld_of_whole, cv_1, cv_2, cv_3, convP_1, convP_2, convP_3, last2_1,
        last1_1, last2_2, last1_2]
    exact last8_apply _ _ _ _ _ _ rfl r j
  · rw [outsAt0_B m c t hc]
    dsimp only
    unfold sout0_B_0 kernelRun0_B
    dsimp only
    rw [View.read_writes_junk_apply_eq_canon, View.canon_cons_unit_lit _ _ _ (by decide)]
    simp only [kernelRun0_B.sl.r_6, kernelRun0_B.sl.r_27, kernelRun0_B.sl.r_28, kernelRun0_B.sl.r_30, kernelRun0_B.sl.r_31,
        kernelRun0_B.sl.r_32, kernelRun0_B.sl.r_36, kernelRun0_B.sl.r_49, kernelRun0_B.sl.r_50, kernelRun0_B.sl.r_51,
        kernelRun0_B.sl.r_52, kernelRun0_B.sl.r_56, kernelRun0_B.sl.r_57, kernelRun0_B.sl.r_74, kernelRun0_B.sl.r_75,
        kernelRun0_B.sl.r_76, kernelRun0_B.sl.r_77, kernelRun0_B.sl.r_78, kernelRun0_B.sl.cst_531, kernelRun0_B.sl.r_82,
        kernelRun0_B.sl.r_102, kernelRun0_B.sl.r_103, kernelRun0_B.sl.r_104, kernelRun0_B.sl.r_105,
        kernelRun0_B.sl.v961, kernelRun0_B.sl.r_2, ld_of_whole, cv_1, cv_2, cv_3, convP_1, convP_2, convP_3, last2_1,
        last1_1, last2_2, last1_2]
    exact last8_apply _ _ _ _ _ _ rfl r j

/-- What stands before a block's first row: two rows of products, zero before a sequence's first block. -/
def prior (n : ℕ) (hn : n < cfg0.N) (r : Fin 8) (j : Fin 512) : EReal :=
  if n % 8 = 0 then 0 else blkZ m c ⟨n - 1, by omega⟩ j ⟨1016 + r, by omega⟩

theorem out_conv (R : Fin 1024) (j : Fin 512) : (outsAt0 m c t.val t.isLt).2.2.2.2.2.2.2.2.1 (ix3 0 R j)
    = blkKv m c t R ⟨1024 + j, by omega⟩
      * taps (iblk m c 7 t (ix2 0 j)) (iblk m c 7 t (ix2 1 j)) (iblk m c 7 t (ix2 2 j))
        (after (prior m c t.val t.isLt 6 j) (prior m c t.val t.isLt 7 j) (blkZ m c t j) R)
        (after (prior m c t.val t.isLt 6 j) (prior m c t.val t.isLt 7 j) (blkZ m c t j) (R + 1)) (blkZ m c t j R) := by
  by_cases hc : t.val % 8 = 0
  · rw [outsAt0_A m c t hc]
    dsimp only
    unfold out0_A_18 kernelRun0_A
    dsimp only
    rw [View.read_writes_junk_apply_eq_canon]
    canon_tiles x h
    all_goals
      obtain ⟨b, d, rfl⟩ := ix3_of _ x
      obtain rfl : j = d := Fin.ext h2
      simp only [kernelRun0_A.sl.r_4, kernelRun0_A.sl.r_25, kernelRun0_A.sl.r_26, kernelRun0_A.sl.r_28, kernelRun0_A.sl.r_29,
        kernelRun0_A.sl.r_30, kernelRun0_A.sl.r_34, kernelRun0_A.sl.r_47, kernelRun0_A.sl.r_48, kernelRun0_A.sl.r_49,
        kernelRun0_A.sl.r_50, kernelRun0_A.sl.r_54, kernelRun0_A.sl.r_55, kernelRun0_A.sl.r_72, kernelRun0_A.sl.r_73,
        kernelRun0_A.sl.r_74, kernelRun0_A.sl.r_75, kernelRun0_A.sl.r_76, kernelRun0_A.sl.cst_531, kernelRun0_A.sl.r_80,
        kernelRun0_A.sl.r_100, kernelRun0_A.sl.r_101, kernelRun0_A.sl.r_102, kernelRun0_A.sl.r_103,
        kernelRun0_A.sl.v961, kernelRun0_A.sl.r, ld_of_whole, cv_1, cv_2, cv_3, convP_1, convP_2, convP_3, last2_1,
        last1_1, last2_2, last1_2]
    iterate 3
      refine conv_apply _ _ _ _ _ _ _ _ _ b R ?_ j _ _ (last2_apply _ _ _ _ _ _ _ _ j _ rfl (by decide))
        (last1_apply _ _ _ _ _ _ _ _ j _ rfl (by decide))
      dsimp [ix3] at h1
      omega
    refine conv_apply _ _ _ _ _ _ _ _ _ b R ?_ j _ _ ?_ ?_
    · dsimp [ix3] at h1
      omega
    · rw [after_zero, prior, if_pos hc, kernelRun0_A.sl.v3, kernelRun0_A.sl.HS0_1, View.readCov_eq_canon',
        View.canon_cons_unit_lit _ _ _ (by decide)]
      exact Ideal.ofBits_zero_f32
    · rw [after_one, prior, if_pos hc, kernelRun0_A.sl.v4, kernelRun0_A.sl.HS0_1, View.readCov_eq_canon',
        View.canon_cons_unit_lit _ _ _ (by decide)]
      exact Ideal.ofBits_zero_f32
  · rw [outsAt0_B m c t hc]
    dsimp only
    unfold out0_B_18 kernelRun0_B
    dsimp only
    rw [View.read_writes_junk_apply_eq_canon]
    canon_tiles x h
    all_goals
      obtain ⟨b, d, rfl⟩ := ix3_of _ x
      obtain rfl : j = d := Fin.ext h2
      simp only [kernelRun0_B.sl.r_6, kernelRun0_B.sl.r_27, kernelRun0_B.sl.r_28, kernelRun0_B.sl.r_30, kernelRun0_B.sl.r_31,
        kernelRun0_B.sl.r_32, kernelRun0_B.sl.r_36, kernelRun0_B.sl.r_49, kernelRun0_B.sl.r_50, kernelRun0_B.sl.r_51,
        kernelRun0_B.sl.r_52, kernelRun0_B.sl.r_56, kernelRun0_B.sl.r_57, kernelRun0_B.sl.r_74, kernelRun0_B.sl.r_75,
        kernelRun0_B.sl.r_76, kernelRun0_B.sl.r_77, kernelRun0_B.sl.r_78, kernelRun0_B.sl.cst_531, kernelRun0_B.sl.r_82,
        kernelRun0_B.sl.r_102, kernelRun0_B.sl.r_103, kernelRun0_B.sl.r_104, kernelRun0_B.sl.r_105,
        kernelRun0_B.sl.v961, kernelRun0_B.sl.r_2, ld_of_whole, cv_1, cv_2, cv_3, convP_1, convP_2, convP_3, last2_1,
        last1_1, last2_2, last1_2]
    iterate 3
      refine conv_apply _ _ _ _ _ _ _ _ _ b R ?_ j _ _ (last2_apply _ _ _ _ _ _ _ _ j _ rfl (by decide))
        (last1_apply _ _ _ _ _ _ _ _ j _ rfl (by decide))
      dsimp [ix3] at h1
      omega
    refine conv_apply _ _ _ _ _ _ _ _ _ b R ?_ j _ _ ?_ ?_
    · dsimp [ix3] at h1
      omega
    · rw [after_zero, prior, if_neg hc, kernelRun0_B.sl.r, ld_of_whole, ← out_carry m c ⟨t.val - 1, by omega⟩ 6 j]
      exact View.ld_unit_apply_of _ _ _ _ _ _ fun a => by fin_cases a <;> simp [ix2]
    · rw [after_one, prior, if_neg hc, kernelRun0_B.sl.r_1, ld_of_whole, ← out_carry m c ⟨t.val - 1, by omega⟩ 7 j]
      exact View.ld_unit_apply_of _ _ _ _ _ _ fun a => by fin_cases a <;> simp [ix2]

end Cert.Proof.Inproj

end
-- ==== Proof.InprojRef.lean ====
module

public import proofs.«01_k».proof.Proof.InprojMath
public import proofs.«01_k».proof.Proof.Gen.InprojRefIdeal.Read
public import Idealize.ShloMosaic.Lib.Pipeline.ValueKit

/-! The input projection's reference at an index. -/

@[expose] public section

set_option maxRecDepth 16384

noncomputable section

namespace Cert.Proof.Inproj

open Cert.InprojRefIdeal Cert.InprojRefIdeal.Gen Cert.InprojRefIdeal.Read Idealize.ShloMosaic Idealize.ShloMosaic.TcCoe

variable (X : Vec Ideal S4x8192x1024 .f32) (M : Vec Ideal S4x6x1024 .f32) (N : Vec Ideal S1024 .f32)
  (W : Vec Ideal S1024x2840 .f32) (Q K : Vec Ideal S64 .f32) (C : Vec Ideal S3x512 .f32)

/-- Token `t`'s row after the norm and the modulation, -/
def row (b : Fin 4) (t : Fin 8192) : Fin 1024 → EReal :=
  Ffn.normed (fun j => X (ix3 b t j)) (fun j => N (ix1 j)) (fun j => M (ix3 b 1 j)) fun j => M (ix3 b 0 j)

theorem ref_row (b : Fin 4) (t : Fin 8192) (j : Fin 1024) :
    val_main_v20 (F := Ideal) X M N (ix3 b t j) = row X M N b t j := by
  pointwise [val_main_v20, val_main_v19, val_main_v18, val_main_v17, val_main_v16, val_main_v15, val_main_v14, val_main_v13,
    val_main_v12, val_main_v11, val_main_v10, val_main_v9, val_main_v8, val_main_v7, val_main_v6, val_main_v5, val_main_v4,
    val_main_v3, val_main_v2, val_main_v1, val_main_v0, val_main_cst, val_main_cst_0, val_main_cst_1, val_main_cst_2]
  rfl

/-- and its projection on column `j`. -/
def pr (b : Fin 4) (t : Fin 8192) (j : Fin 2840) : EReal := col (row X M N b t) fun k => W (ix2 k j)

theorem ref_pr (b : Fin 4) (t : Fin 8192) (j : Fin 2840) :
    val_main_v21 (F := Ideal) X M N W (ix3 b t j) = pr X M N W b t j := by
  pointwise [val_main_v21]
  simp only [ref_row]
  rfl

theorem ref_kc (b : Fin 4) (t : Fin 8192) (j : Fin 128) :
    val_main_v23 (F := Ideal) X M N W (ix3 b t j) = pr X M N W b t ⟨512 + j, by omega⟩ := by
  pointwise [val_main_v23]
  simp only [ref_pr]

theorem ref_vc (b : Fin 4) (t : Fin 8192) (j : Fin 128) :
    val_main_v24 (F := Ideal) X M N W (ix3 b t j) = pr X M N W b t ⟨640 + j, by omega⟩ := by
  pointwise [val_main_v24]
  simp only [ref_pr]

theorem ref_ks (b : Fin 4) (t : Fin 8192) (g : Fin 2) (d : Fin 64) :
    val_main_v85 (F := Ideal) X M N W K (ix3 b t ⟨g * 64 + d, by omega⟩)
      = unit (fun e => pr X M N W b t ⟨768 + (g * 64 + e), by omega⟩) (K (ix1 d)) d := by
  pointwise [val_main_v85, val_main_v47, val_main_v46, val_main_v45, val_main_v44, val_main_v43, val_main_v42, val_main_v41,
    val_main_v40, val_main_v39, val_main_v38, val_main_v37, val_main_v36, val_main_v35, val_main_v34, val_main_v33, val_main_v25,
    val_main_cst_3, val_main_cst_4, val_main_cst_5]
  simp only [ref_pr]
  rfl

theorem ref_kw (b : Fin 4) (t : Fin 8192) (g : Fin 2) (d : Fin 64) :
    val_main_v86 (F := Ideal) X M N W K (ix3 b t ⟨g * 64 + d, by omega⟩)
      = unit (fun e => pr X M N W b t ⟨1024 + (g * 64 + e), by omega⟩) (K (ix1 d)) d := by
  pointwise [val_main_v86, val_main_v62, val_main_v61, val_main_v60, val_main_v59, val_main_v58, val_main_v57, val_main_v56,
    val_main_v55, val_main_v54, val_main_v53, val_main_v52, val_main_v51, val_main_v50, val_main_v49, val_main_v48, val_main_v27,
    val_main_cst_6, val_main_cst_7, val_main_cst_8]
  simp only [ref_pr]
  rfl

end Cert.Proof.Inproj

end
-- ==== Proof.InprojRefConv.lean ====
module

public import proofs.«01_k».proof.Proof.InprojRef
public import Idealize.ShloMosaic.Lib.Pipeline.ValueKit

/-! The input projection's reference at an index: the convolution. -/

@[expose] public section

set_option maxRecDepth 16384

noncomputable section

namespace Cert.Proof.Inproj

open Cert.InprojRefIdeal Cert.InprojRefIdeal.Gen Cert.InprojRefIdeal.Read Idealize.ShloMosaic Idealize.ShloMosaic.TcCoe

variable (X : Vec Ideal S4x8192x1024 .f32) (M : Vec Ideal S4x6x1024 .f32) (N : Vec Ideal S1024 .f32)
  (W : Vec Ideal S1024x2840 .f32) (Q K : Vec Ideal S64 .f32) (C : Vec Ideal S3x512 .f32)

/-- The gated input of the convolution at a token. -/
def zed (b : Fin 4) (t : Fin 8192) (j : Fin 512) : EReal :=
  pr X M N W b t ⟨1304 + j, by omega⟩ * pr X M N W b t ⟨2328 + j, by omega⟩

/-- The same `k` tokens earlier, zero before the first. -/
def back (b : Fin 4) (t : Fin 8192) (k : ℕ) (j : Fin 512) : EReal :=
  if h : k ≤ (t : ℕ) then zed X M N W b ⟨t - k, by omega⟩ j else 0

theorem pad_zero' (i : S_.Idx) : val_main_call0_v0 (F := Ideal) i = 0 := by
  simp [val_main_call0_v0, val_main_c, sitofp, constantI, FloatOps.sitofp]

theorem ref_zed (b : Fin 4) (t : Fin 8192) (j : Fin 512) :
    val_main_v63 (F := Ideal) X M N W (ix3 b t j) = zed X M N W b t j := by
  pointwise [val_main_v63, val_main_v30, val_main_v32]
  simp only [ref_pr, zed]

theorem ref_back2 (b : Fin 4) (t : Fin 8192) (j : Fin 512) :
    val_main_v67 (F := Ideal) X M N W (ix3 b t j) = back X M N W b t 2 j := by
  pointwise [val_main_v67, val_main_v64]
  simp only [ref_zed, pad_zero', back]
  by_cases h : 2 ≤ (t : ℕ)
  · rw [dif_pos ⟨h, by omega⟩, dif_pos h]
  · rw [dif_neg (fun q => h q.1), dif_neg h]

theorem ref_back1 (b : Fin 4) (t : Fin 8192) (j : Fin 512) :
    val_main_v73 (F := Ideal) X M N W (ix3 b t j) = back X M N W b t 1 j := by
  pointwise [val_main_v73, val_main_v64]
  simp only [ref_zed, pad_zero', back]
  by_cases h : 1 ≤ (t : ℕ)
  · rw [dif_pos ⟨by omega, by omega⟩, dif_pos h]
    exact congrArg (fun q => zed X M N W b q j) (Fin.ext (by show 1 + (t : ℕ) - 2 = t - 1; omega))
  · rw [dif_neg (fun q => h (by have := q.1; omega)), dif_neg h]

theorem ref_conv (b : Fin 4) (t : Fin 8192) (j : Fin 512) :
    val_main_v87 (F := Ideal) X M N W C (ix3 b t j)
      = pr X M N W b t ⟨1816 + j, by omega⟩ * taps (C (ix2 0 j)) (C (ix2 1 j)) (C (ix2 2 j))
          (back X M N W b t 2 j) (back X M N W b t 1 j) (zed X M N W b t j) := by
  pointwise [val_main_v87, val_main_v84, val_main_v83, val_main_v82, val_main_v81, val_main_v80, val_main_v79, val_main_v78,
    val_main_v77, val_main_v76, val_main_v75, val_main_v74, val_main_v72, val_main_v71, val_main_v70,
    val_main_v69, val_main_v68, val_main_v66, val_main_v65, val_main_v31]
  simp only [ref_pr, ref_zed, ref_back1, ref_back2, taps]

end Cert.Proof.Inproj

end
-- ==== Proof.InprojTie.lean ====
module

public import proofs.«01_k».proof.Proof.InprojBlocks
public import proofs.«01_k».proof.Proof.InprojConv
public import proofs.«01_k».proof.Proof.InprojRefConv
public import proofs.«01_k».proof.Proof.Gen.InprojRefIdeal.Read

/-! The arrays the kernel leaves, against the reference's values. -/

@[expose] public section

set_option maxRecDepth 16384
set_option maxHeartbeats 800000

noncomputable section

namespace Cert.Proof.Inproj

open Cert.InprojIdeal Cert.InprojIdeal.Gen Idealize.ShloMosaic Idealize.ShloMosaic.TcCoe

theorem eq_ix3 {n : ℕ} (y : Shape.Idx ⟨3, ![1, 1024, n]⟩) : ∃ (b : Fin 1024) (d : Fin n), y = ix3 0 b d :=
  ⟨y 1, y 2, by funext a; fin_cases a; exacts [Subsingleton.elim (α := Fin 1) _ _, rfl, rfl]⟩

theorem idxo (t : Fin cfg0.N) : win0_11.index t = ![(grid0.coords t 0).val, (grid0.coords t 1).val, 0]
    ∧ win0_12.index t = ![(grid0.coords t 0).val, (grid0.coords t 1).val, 0]
    ∧ win0_13.index t = ![(grid0.coords t 0).val, (grid0.coords t 1).val, 0]
    ∧ win0_15.index t = ![(grid0.coords t 0).val, (grid0.coords t 1).val, 0]
    ∧ win0_18.index t = ![(grid0.coords t 0).val, (grid0.coords t 1).val, 0] :=
  (by decide +kernel : ∀ t : Fin grid0.N, win0_11.index t = ![(grid0.coords t 0).val, (grid0.coords t 1).val, 0]
    ∧ win0_12.index t = ![(grid0.coords t 0).val, (grid0.coords t 1).val, 0]
    ∧ win0_13.index t = ![(grid0.coords t 0).val, (grid0.coords t 1).val, 0]
    ∧ win0_15.index t = ![(grid0.coords t 0).val, (grid0.coords t 1).val, 0]
    ∧ win0_18.index t = ![(grid0.coords t 0).val, (grid0.coords t 1).val, 0]) t

theorem inv64 (x : EReal) : Ideal.div x (Ideal.ofBits FTy.f32 0x42800000#32) = x * Ideal.ofBits FTy.f32 0x3C800000#32 := by
  have h : Ideal.ofBits FTy.f32 0x42800000#32 = ((64 : ℝ) : EReal) := by
    simp [Ideal.ofBits, Ideal.ieee, -EReal.coe_mul]; norm_num
  have h' : Ideal.ofBits FTy.f32 0x3C800000#32 = (((64 : ℝ)⁻¹ : ℝ) : EReal) := by
    simp [Ideal.ofBits, Ideal.ieee, -EReal.coe_mul]; norm_num
  rw [h, h', Ideal.div, if_neg (by exact_mod_cast (by norm_num : (64 : ℝ) ≠ 0)), EReal.coe_inv]

/-- A sum over both heads' columns against the indicator of one head is the sum over that head's. -/
theorem head_sum (f : Fin 128 → EReal) (g : Fin 2) (d : Fin 64) :
    (∑ e : Fin 128, f e * (if e.val / 64 = (⟨g * 64 + d, by omega⟩ : Fin 128).val / 64 then (1 : EReal) else 0))
      = ∑ e : Fin 64, f ⟨g * 64 + e, by omega⟩ := by
  rw [← (finProdFinEquiv (m := 2) (n := 64)).sum_comp, Fintype.sum_prod_type]
  rw [Finset.sum_eq_single g]
  · refine Finset.sum_congr rfl fun e _ => ?_
    have he : (finProdFinEquiv (m := 2) (n := 64) (g, e)) = (⟨g * 64 + e, by omega⟩ : Fin 128) :=
      Fin.ext (by simp [finProdFinEquiv]; omega)
    rw [he, if_pos (by dsimp only; omega), mul_one]
  · intro b _ hb
    refine Finset.sum_eq_zero fun e _ => ?_
    have he : (finProdFinEquiv (m := 2) (n := 64) (b, e)) = (⟨b * 64 + e, by omega⟩ : Fin 128) :=
      Fin.ext (by simp [finProdFinEquiv]; omega)
    have hb' : b.val ≠ g.val := fun h => hb (Fin.ext h)
    rw [he, if_neg (by dsimp only; omega), mul_zero]
  · intro h
    exact absurd (Finset.mem_univ _) h

theorem heads_unit (v : Fin 128 → EReal) (x : EReal) (g : Fin 2) (d : Fin 64) :
    headsOf v (fun e d => if e.val / 64 = d.val / 64 then (1 : EReal) else 0) x ⟨g * 64 + d, by omega⟩
      = unit (fun e => v ⟨g * 64 + e, by omega⟩) x d := by
  unfold headsOf unit
  rw [head_sum (fun e => v e * v e), inv64]

variable (m : (ℓ : Loc nD τ sig) → Buf (Elt Ideal) ℓ) (c : Dev nD) (t : Fin cfg0.N)

abbrev prOf (b : Fin 4) (s : Fin 8192) (j : Fin 2840) : EReal :=
  pr (m ((c : Thread nD τ).loc main_arg0)) (m ((c : Thread nD τ).loc main_arg1)) (m ((c : Thread nD τ).loc main_arg2))
    (m ((c : Thread nD τ).loc main_arg3)) b s j

theorem row_eq (R : Fin 1024) : rowOf (iblk m c 0 t) (iblk m c 1 t) (iblk m c 2 t) R
    = row (m ((c : Thread nD τ).loc main_arg0)) (m ((c : Thread nD τ).loc main_arg1)) (m ((c : Thread nD τ).loc main_arg2))
        (grid0.coords t 0) (tok t R) := by
  unfold rowOf row
  simp only [blk0, blk1, blk2]

theorem kv_of (R : Fin 1024) (i : Fin 2048) (j : Fin 2840)
    (h : ∀ k : Fin 1024, V m c main_v38 (ix2 k i) = m ((c : Thread nD τ).loc main_arg3) (ix2 k j)) :
    blkKv m c t R i = prOf m c (grid0.coords t 0) (tok t R) j := by
  unfold blkKv kvOf prOf pr
  rw [row_eq]
  exact congrArg (col _) (funext fun k => (blk3 m c t k i).trans (h k))

theorem arr_kc : (dats m 0 c).arrAt 11 cfg0.N
    = Cert.InprojRefIdeal.Read.val_main_v23 (F := Ideal) (m ((c : Thread nD τ).loc main_arg0)) (m ((c : Thread nD τ).loc main_arg1))
        (m ((c : Thread nD τ).loc main_arg2)) (m ((c : Thread nD τ).loc main_arg3)) := by
  refine (dats m 0 c).arrAt_eq_of_covers 11 _ (by decide +kernel) fun t hf y => ?_
  blk_simp
  rw [after0_11]
  obtain ⟨r, j, rfl⟩ := eq_ix3 y
  rw [show (win0_11.blk t).view.emb (ix3 0 r j) = ix3 (grid0.coords t 0) (tok t r) j by unfold tok; blk_ext [idxo t]]
  exact (out_kc m c t r j).trans ((kv_of m c t r _ _ fun k =>
    (congrArg (fun i => V m c main_v38 (ix2 k i)) (Fin.ext (Nat.zero_add _).symm)).trans (w_kc m c k j)).trans
      (ref_kc _ _ _ _ (grid0.coords t 0) (tok t r) j).symm)

theorem arr_vc : (dats m 0 c).arrAt 12 cfg0.N
    = Cert.InprojRefIdeal.Read.val_main_v24 (F := Ideal) (m ((c : Thread nD τ).loc main_arg0)) (m ((c : Thread nD τ).loc main_arg1))
        (m ((c : Thread nD τ).loc main_arg2)) (m ((c : Thread nD τ).loc main_arg3)) := by
  refine (dats m 0 c).arrAt_eq_of_covers 12 _ (by decide +kernel) fun t hf y => ?_
  blk_simp
  rw [after0_12]
  obtain ⟨r, j, rfl⟩ := eq_ix3 y
  rw [show (win0_12.blk t).view.emb (ix3 0 r j) = ix3 (grid0.coords t 0) (tok t r) j by unfold tok; blk_ext [idxo t]]
  exact (out_vc m c t r j).trans ((kv_of m c t r _ _ fun k => w_vc m c k j).trans
    (ref_vc _ _ _ _ (grid0.coords t 0) (tok t r) j).symm)

theorem heads_of (R : Fin 1024) (o : ℕ) (ho : o + 128 ≤ 2048) (p : ℕ) (hp : p + 128 ≤ 2840)
    (h : ∀ (k : Fin 1024) (j : Fin 128), V m c main_v38 (ix2 k ⟨o + j, by omega⟩)
      = m ((c : Thread nD τ).loc main_arg3) (ix2 k ⟨p + j, by omega⟩)) (g : Fin 2) (d : Fin 64) :
    headsOf (fun e => blkKv m c t R ⟨o + e, by omega⟩) (fun e d => iblk m c 9 t (ix2 e d))
        (iblk m c 6 t (ix2 0 ⟨g * 64 + d, by omega⟩)) ⟨g * 64 + d, by omega⟩
      = unit (fun e => prOf m c (grid0.coords t 0) (tok t R) ⟨p + (g * 64 + e), by omega⟩)
          (m ((c : Thread nD τ).loc main_arg5) (ix1 d)) d := by
  simp only [blk9]
  rw [blk6, heads_unit]
  exact congrArg (fun v => unit v _ d) (funext fun e => kv_of m c t R _ _ fun k => h k ⟨g * 64 + e, by omega⟩)

theorem split128 (j : Fin 128) : ∃ (g : Fin 2) (d : Fin 64), j = ⟨g * 64 + d, by omega⟩ :=
  ⟨⟨j / 64, by omega⟩, ⟨j % 64, by omega⟩, Fin.ext (by dsimp only; omega)⟩

theorem arr_ks : (dats m 0 c).arrAt 13 cfg0.N
    = Cert.InprojRefIdeal.Read.val_main_v85 (F := Ideal) (m ((c : Thread nD τ).loc main_arg0)) (m ((c : Thread nD τ).loc main_arg1))
        (m ((c : Thread nD τ).loc main_arg2)) (m ((c : Thread nD τ).loc main_arg3)) (m ((c : Thread nD τ).loc main_arg5)) := by
  refine (dats m 0 c).arrAt_eq_of_covers 13 _ (by decide +kernel) fun t hf y => ?_
  blk_simp
  rw [after0_13]
  obtain ⟨r, j, rfl⟩ := eq_ix3 y
  rw [show (win0_13.blk t).view.emb (ix3 0 r j) = ix3 (grid0.coords t 0) (tok t r) j by unfold tok; blk_ext [idxo t]]
  obtain ⟨g, d, rfl⟩ := split128 j
  exact (out_ks m c t r _).trans ((heads_of m c t r 256 (by omega) 768 (by omega) (w_ks m c) g d).trans
    (ref_ks _ _ _ _ _ (grid0.coords t 0) (tok t r) g d).symm)

theorem arr_kw : (dats m 0 c).arrAt 15 cfg0.N
    = Cert.InprojRefIdeal.Read.val_main_v86 (F := Ideal) (m ((c : Thread nD τ).loc main_arg0)) (m ((c : Thread nD τ).loc main_arg1))
        (m ((c : Thread nD τ).loc main_arg2)) (m ((c : Thread nD τ).loc main_arg3)) (m ((c : Thread nD τ).loc main_arg5)) := by
  refine (dats m 0 c).arrAt_eq_of_covers 15 _ (by decide +kernel) fun t hf y => ?_
  blk_simp
  rw [after0_15]
  obtain ⟨r, j, rfl⟩ := eq_ix3 y
  rw [show (win0_15.blk t).view.emb (ix3 0 r j) = ix3 (grid0.coords t 0) (tok t r) j by unfold tok; blk_ext [idxo t]]
  obtain ⟨g, d, rfl⟩ := split128 j
  exact (out_kw m c t r _).trans ((heads_of m c t r 384 (by omega) 1024 (by omega) (w_kw m c) g d).trans
    (ref_kw _ _ _ _ _ (grid0.coords t 0) (tok t r) g d).symm)

abbrev zedOf (b : Fin 4) (s : Fin 8192) (j : Fin 512) : EReal :=
  zed (m ((c : Thread nD τ).loc main_arg0)) (m ((c : Thread nD τ).loc main_arg1)) (m ((c : Thread nD τ).loc main_arg2))
    (m ((c : Thread nD τ).loc main_arg3)) b s j

theorem blkZ_eq (j : Fin 512) (R : Fin 1024) : blkZ m c t j R = zedOf m c (grid0.coords t 0) (tok t R) j := by
  unfold zedOf zed
  exact congrArg₂ (· * ·) (kv_of m c t R _ _ fun k => w_ca m c k j) (kv_of m c t R _ _ fun k => w_cb m c k j)

/-- The grid walks a batch row's eight blocks in order. -/
theorem walk (t : Fin cfg0.N) : (grid0.coords t 1).val = t.val % 8 ∧ (grid0.coords t 0).val = t.val / 8 :=
  (by decide +kernel : ∀ t : Fin grid0.N, (grid0.coords t 1).val = t.val % 8 ∧ (grid0.coords t 0).val = t.val / 8) t

theorem same_row (n : ℕ) (h : ¬ n % 8 = 0) : (n - 1) / 8 = n / 8 := by omega
theorem prev_block (n : ℕ) (h : ¬ n % 8 = 0) : (n - 1) % 8 = n % 8 - 1 := by omega

theorem prior_eq (r : Fin 8) (j : Fin 512) : prior m c t.val t.isLt r j
    = if h : t.val % 8 = 0 then 0 else zedOf m c (grid0.coords t 0) ⟨(grid0.coords t 1).val * 1024 + r.val - 8, by
        have : (grid0.coords t 1).val < 8 := (grid0.coords t 1).isLt
        omega⟩ j := by
  unfold prior
  by_cases h : t.val % 8 = 0
  · rw [if_pos h, dif_pos h]
  · rw [if_neg h, dif_neg h, blkZ_eq]
    have hn : t.val - 1 < cfg0.N := by omega
    have h1 := walk t
    have h2 := walk (⟨t.val - 1, hn⟩ : Fin cfg0.N)
    dsimp only at h2
    have e0 : grid0.coords (⟨t.val - 1, hn⟩ : Fin cfg0.N) 0 = grid0.coords t 0 := Fin.ext (h2.2.trans ((same_row t.val h).trans h1.2.symm))
    have e3 : (grid0.coords (⟨t.val - 1, hn⟩ : Fin cfg0.N) 1).val = (grid0.coords t 1).val - 1 := by
      rw [h2.1, h1.1]
      exact prev_block t.val h
    have e4 : (grid0.coords t 1).val ≠ 0 := by rw [h1.1]; exact h
    have e1 : tok (⟨t.val - 1, hn⟩ : Fin cfg0.N) ⟨1016 + r, by omega⟩ = ⟨(grid0.coords t 1).val * 1024 + r.val - 8, by
        have : (grid0.coords t 1).val < 8 := (grid0.coords t 1).isLt
        omega⟩ := Fin.ext (by
          show (grid0.coords (⟨t.val - 1, hn⟩ : Fin cfg0.N) 1).val * 1024 + (1016 + r.val) = (grid0.coords t 1).val * 1024 + r.val - 8
          rw [e3]
          omega)
    rw [e0, e1]

/-- Entry `n` of a block's history: the products from two tokens before the block on. -/
theorem after_eq (n : ℕ) (hn : n < 1026) (j : Fin 512) :
    after (prior m c t.val t.isLt 6 j) (prior m c t.val t.isLt 7 j) (blkZ m c t j) n
      = if h : 2 ≤ (grid0.coords t 1).val * 1024 + n then
          zedOf m c (grid0.coords t 0) ⟨(grid0.coords t 1).val * 1024 + n - 2, by
            have : (grid0.coords t 1).val < 8 := (grid0.coords t 1).isLt
            omega⟩ j else 0 := by
  have h1 := (walk t).1
  match n, hn with
  | 0, _ =>
    rw [after_zero, prior_eq]
    by_cases h : t.val % 8 = 0
    · rw [dif_pos h, dif_neg (by omega)]
    · rw [dif_neg h, dif_pos (by omega)]
      exact congrArg (fun s => zedOf m c _ s j) (Fin.ext (by show (grid0.coords t 1).val * 1024 + 6 - 8 = (grid0.coords t 1).val * 1024 + 0 - 2; omega))
  | 1, _ =>
    rw [after_one, prior_eq]
    by_cases h : t.val % 8 = 0
    · rw [dif_pos h, dif_neg (by omega)]
    · rw [dif_neg h, dif_pos (by omega)]
      exact congrArg (fun s => zedOf m c _ s j) (Fin.ext (by show (grid0.coords t 1).val * 1024 + 7 - 8 = (grid0.coords t 1).val * 1024 + 1 - 2; omega))
  | n + 2, hn =>
    rw [after_of _ _ _ _ ⟨n, by omega⟩ rfl, blkZ_eq, dif_pos (by omega)]
    exact congrArg (fun s => zedOf m c _ s j) (Fin.ext (by unfold tok; dsimp only; omega))

theorem arr_conv : (dats m 0 c).arrAt 18 cfg0.N
    = Cert.InprojRefIdeal.Read.val_main_v87 (F := Ideal) (m ((c : Thread nD τ).loc main_arg0)) (m ((c : Thread nD τ).loc main_arg1))
        (m ((c : Thread nD τ).loc main_arg2)) (m ((c : Thread nD τ).loc main_arg3)) (m ((c : Thread nD τ).loc main_arg6)) := by
  refine (dats m 0 c).arrAt_eq_of_covers 18 _ (by decide +kernel) fun t hf y => ?_
  blk_simp
  rw [after0_18]
  obtain ⟨r, j, rfl⟩ := eq_ix3 y
  rw [show (win0_18.blk t).view.emb (ix3 0 r j) = ix3 (grid0.coords t 0) (tok t r) j by unfold tok; blk_ext [idxo t]]
  refine (out_conv m c t r j).trans (Eq.trans ?_ (ref_conv _ _ _ _ _ (grid0.coords t 0) (tok t r) j).symm)
  rw [blk7, blk7, blk7, after_eq m c t r (by omega), after_eq m c t (r + 1) (by omega), blkZ_eq,
    kv_of m c t r _ _ fun k => w_cg m c k j]
  unfold back
  refine congrArg₂ (fun a b => _ * taps _ _ _ a b _) rfl ?_
  by_cases h : 1 ≤ (grid0.coords t 1).val * 1024 + r.val
  · rw [dif_pos (by omega), dif_pos (by exact h)]
    exact congrArg (fun s => zedOf m c _ s j) (Fin.ext (by unfold tok; dsimp only; omega))
  · rw [dif_neg (by omega), dif_neg (by exact h)]

end Cert.Proof.Inproj

end
-- ==== Proof.InprojAlg.lean ====
module

public import proofs.«01_k».proof.Defs
public import proofs.«01_k».proof.Proof.InprojTie
public import proofs.«01_k».proof.Proof.Gen.InprojIdeal.Value

/-! The reference's frame, and the equation of the two programs' arrays. -/

@[expose] public section

set_option maxRecDepth 16384
set_option maxHeartbeats 800000

noncomputable section

namespace Cert.Proof.Inproj

open Cert.InprojIdeal Cert.InprojIdeal.Gen Idealize.ShloMosaic Idealize.ShloMosaic.TcCoe

theorem frame_ref [hInprojRefIdeal : Cert.InprojRefIdeal.Facts] : Cert.quiescent_InprojRefIdeal (hInprojRefIdeal := hInprojRefIdeal) :=
  fun m ρ _ => (θ_run Cert.InprojRefIdeal.defs _ _).mono
    (fun r h => ⟨fun c => (h c).2.2.2.2.2, sem_eq_zero_of_no_sems (by decide) r.2⟩) (Cert.InprojRefIdeal.Value.run m ρ)

theorem algebraic : Cert.algebraic_InprojIdeal_InprojRefIdeal (hInprojIdeal := Cert.InprojIdeal.Gen.facts)
    (hInprojRefIdeal := Cert.InprojRefIdeal.Gen.facts) :=
  fun m ρ m' ρ' _ hag =>
    ⟨fun c => (dats m 0 c).arrAt 11 cfg0.N, fun c => (dats m 0 c).arrAt 12 cfg0.N, fun c => (dats m 0 c).arrAt 13 cfg0.N,
      fun c => (dats m 0 c).arrAt 15 cfg0.N, fun c => (dats m 0 c).arrAt 18 cfg0.N,
      (θ_run _ _ _).mono (fun r h c => by
        obtain ⟨_, a, b, d, _, e, _, _, f, kept⟩ := h c
        exact ⟨a, b, d, e, f, kept⟩) (Cert.InprojIdeal.Value.run_blocks m ρ),
      (θ_run _ _ _).mono (fun r h c => by
        obtain ⟨h0, h1, h2, h3, h4, h5, h6⟩ := hag c
        obtain ⟨a, b, d, e, f, kept⟩ := h c
        refine ⟨a.trans ?_, b.trans ?_, d.trans ?_, e.trans ?_, f.trans ?_, kept⟩
        · beta_reduce
          rw [arr_kc, ← h0, ← h1, ← h2, ← h3]
          exact Cert.InprojRefIdeal.Read.val_main_v23_eq _ _ _ _
        · beta_reduce
          rw [arr_vc, ← h0, ← h1, ← h2, ← h3]
          exact Cert.InprojRefIdeal.Read.val_main_v24_eq _ _ _ _
        · beta_reduce
          rw [arr_ks, ← h0, ← h1, ← h2, ← h3, ← h5]
          exact Cert.InprojRefIdeal.Read.val_main_v85_eq m' c
        · beta_reduce
          rw [arr_kw, ← h0, ← h1, ← h2, ← h3, ← h5]
          exact Cert.InprojRefIdeal.Read.val_main_v86_eq m' c
        · beta_reduce
          rw [arr_conv, ← h0, ← h1, ← h2, ← h3, ← h6]
          exact Cert.InprojRefIdeal.Read.val_main_v87_eq m' c) (Cert.InprojRefIdeal.Value.run m' ρ')⟩

end Cert.Proof.Inproj

end
-- ==== Proof.lean ====
module

public import proofs.«01_k».proof.Defs
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnRefIdeal
public import proofs.«01_k».proof.Proof.Gen.FfnIdeal.Value
public import proofs.«01_k».proof.Proof.Gen.FfnRefIdeal.Read
public import proofs.«01_k».proof.Proof.FfnTie
public import proofs.«01_k».proof.Proof.Gen.Inproj
public import proofs.«01_k».proof.Proof.Gen.Inproj.Skeleton
public import proofs.«01_k».proof.Proof.Gen.Inproj.Launch
public import proofs.«01_k».proof.Proof.Gen.Inproj.Points
public import proofs.«01_k».proof.Proof.Gen.Inproj.Frame
public import proofs.«01_k».proof.Proof.Gen.InprojIdeal
public import proofs.«01_k».proof.Proof.Gen.InprojIdeal.Skeleton
public import proofs.«01_k».proof.Proof.Gen.InprojIdeal.Launch
public import proofs.«01_k».proof.Proof.Gen.InprojIdeal.Points
public import proofs.«01_k».proof.Proof.Gen.InprojIdeal.Frame
public import proofs.«01_k».proof.Proof.Gen.InprojRefIdeal
public import proofs.«01_k».proof.Proof.Gen.InprojIdeal.Value
public import proofs.«01_k».proof.Proof.Gen.InprojRefIdeal.Read
public import proofs.«01_k».proof.Proof.InprojAlg
public import Idealize.ShloMosaic.Adequacy
public import Idealize.ShloMosaic.Init

@[expose] public section

noncomputable section

namespace Cert.Proof

open Idealize.ShloMosaic Idealize.SL.Sem Cert.Ffn

theorem claim : Cert.Claim := ⟨Cert.Ffn.Gen.facts, Cert.FfnIdeal.Gen.facts, Cert.FfnRefIdeal.Gen.facts,
  Cert.Inproj.Gen.facts, Cert.InprojIdeal.Gen.facts, Cert.InprojRefIdeal.Gen.facts,
  fun m ρ _ => Cert.Ffn.Gen.frame m ρ, fun m ρ _ => Cert.FfnIdeal.Gen.frame m ρ, Ffn.frame_ref,
  fun m ρ _ => Cert.Inproj.Gen.frame m ρ, fun m ρ _ => Cert.InprojIdeal.Gen.frame m ρ, Inproj.frame_ref,
  trivial, Ffn.algebraic, trivial, Inproj.algebraic⟩

end Cert.Proof

end
